-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x14336 : Shape := ⟨3, ![1, 256, 14336]⟩
abbrev S7168x4096 : Shape := ⟨2, ![7168, 4096]⟩
abbrev S56x8x256x2 : Shape := ⟨4, ![56, 8, 256, 2]⟩
abbrev S56x8 : Shape := ⟨2, ![56, 8]⟩
abbrev S4096 : Shape := ⟨1, ![4096]⟩
abbrev S256x14336 : Shape := ⟨2, ![256, 14336]⟩
abbrev S56x2x8x256 : Shape := ⟨4, ![56, 2, 8, 256]⟩
abbrev S8x56 : Shape := ⟨2, ![8, 56]⟩
abbrev S1x4096 : Shape := ⟨2, ![1, 4096]⟩
abbrev S256x4096 : Shape := ⟨2, ![256, 4096]⟩
abbrev S1024x512 : Shape := ⟨2, ![1024, 512]⟩
abbrev S8x2x8x256 : Shape := ⟨4, ![8, 2, 8, 256]⟩
abbrev S1x512 : Shape := ⟨2, ![1, 512]⟩
abbrev S256x512 : Shape := ⟨2, ![256, 512]⟩
abbrev S2048x512 : Shape := ⟨2, ![2048, 512]⟩
abbrev S56x8x128 : Shape := ⟨3, ![56, 8, 128]⟩
abbrev S16x128 : Shape := ⟨2, ![16, 128]⟩
abbrev S16x128x1 : Shape := ⟨3, ![16, 128, 1]⟩
abbrev S8x72 : Shape := ⟨2, ![8, 72]⟩
abbrev S8x128 : Shape := ⟨2, ![8, 128]⟩
abbrev S8x128x1 : Shape := ⟨3, ![8, 128, 1]⟩
abbrev S1x8x128 : Shape := ⟨3, ![1, 8, 128]⟩
abbrev S32x128 : Shape := ⟨2, ![32, 128]⟩
abbrev S1x1x8x128 : Shape := ⟨4, ![1, 1, 8, 128]⟩
abbrev S32x128x1 : Shape := ⟨3, ![32, 128, 1]⟩
abbrev S1x1x128 : Shape := ⟨3, ![1, 1, 128]⟩
abbrev S1x128 : Shape := ⟨2, ![1, 128]⟩
abbrev S256x2048 : Shape := ⟨2, ![256, 2048]⟩

abbrev nBuf : Space → Nat
  | .hbm => 10
  | .vmem => 15
  | .smem => 0
  | _ => 0

abbrev bufTy : (tb : Table) → Fin (tcTables nBuf tb) → BufTy
  | .hbm, ⟨0, _⟩ => ⟨S1x256x14336, .bf16⟩
  | .hbm, ⟨1, _⟩ => ⟨S7168x4096, .i8⟩
  | .hbm, ⟨2, _⟩ => ⟨S56x8x256x2, .i8⟩
  | .hbm, ⟨3, _⟩ => ⟨S56x8, .bf16⟩
  | .hbm, ⟨4, _⟩ => ⟨S4096, .f32⟩
  | .hbm, ⟨5, _⟩ => ⟨S256x14336, .bf16⟩
  | .hbm, ⟨6, _⟩ => ⟨S56x2x8x256, .i8⟩
  | .hbm, ⟨7, _⟩ => ⟨S8x56, .bf16⟩
  | .hbm, ⟨8, _⟩ => ⟨S1x4096, .f32⟩
  | .hbm, ⟨9, _⟩ => ⟨S256x4096, .bf16⟩
  | .local _ .vmem, ⟨0, _⟩ => ⟨S256x14336, .bf16⟩
  | .local _ .vmem, ⟨1, _⟩ => ⟨S1024x512, .i8⟩
  | .local _ .vmem, ⟨2, _⟩ => ⟨S1024x512, .i8⟩
  | .local _ .vmem, ⟨3, _⟩ => ⟨S8x2x8x256, .i8⟩
  | .local _ .vmem, ⟨4, _⟩ => ⟨S8x2x8x256, .i8⟩
  | .local _ .vmem, ⟨5, _⟩ => ⟨S8x56, .bf16⟩
  | .local _ .vmem, ⟨6, _⟩ => ⟨S1x512, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S256x14336, .bf16⟩
  | .local _ .vmem, ⟨11, _⟩ => ⟨S256x512, .f32⟩
  | .local _ .vmem, ⟨12, _⟩ => ⟨S2048x512, .bf16⟩
  | .local _ .vmem, ⟨13, _⟩ => ⟨S2048x512, .bf16⟩
  | .local _ .vmem, ⟨14, _⟩ => ⟨S56x8x128, .f32⟩
  | _, _ => ⟨S1x256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![57], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_40 : BitVec 32 := 0#32
  let c112_i32 : BitVec 32 := 112#32
  let v84 : BitVec 32 := Scalar.addi c0_i32_40 c112_i32
  let c1_i32_41 : BitVec 32 := 1#32
  ⟨c0_i32_40, v84, c1_i32_41⟩
def k0_mult1 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32 : BitVec 32 := 128#32
  let v482 : BitVec 32 := Scalar.muli arg12 c128_i32
  v482
def k0_off1 (k0_t1 : Fin k0_t1_loop.trips) : Fin 2 → Nat :=
  let c0_162 : Index := 0#32
  let c0_i32_40 : BitVec 32 := 0#32
  let c1_i32_41 : BitVec 32 := 1#32
  let arg12 : BitVec 32 := Scf.iv c0_i32_40 c1_i32_41 k0_t1
  let c128_i32 : BitVec 32 := 128#32
  let v482 : BitVec 32 := Scalar.muli arg12 c128_i32
  let v483 : BitVec 32 := v482
  let v484 : Index := Scalar.indexCast v483
  ![0, v484.toNat]
def k0_mult2 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_163 : BitVec 32 := 128#32
  let v492 : BitVec 32 := Scalar.muli arg12 c128_i32_163
  v492
def k0_mult3 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_165 : BitVec 32 := 128#32
  let v498 : BitVec 32 := Scalar.muli arg12 c128_i32_165
  v498
def k0_off2 (k0_t1 : Fin k0_t1_loop.trips) : Fin 2 → Nat :=
  let c16_166 : Index := 16#32
  let c0_i32_40 : BitVec 32 := 0#32
  let c1_i32_41 : BitVec 32 := 1#32
  let arg12 : BitVec 32 := Scf.iv c0_i32_40 c1_i32_41 k0_t1
  let c128_i32_165 : BitVec 32 := 128#32
  let v498 : BitVec 32 := Scalar.muli arg12 c128_i32_165
  let v499 : BitVec 32 := v498
  let v500 : Index := Scalar.indexCast v499
  ![16, v500.toNat]
def k0_mult4 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_167 : BitVec 32 := 128#32
  let v508 : BitVec 32 := Scalar.muli arg12 c128_i32_167
  v508
def k0_mult5 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_169 : BitVec 32 := 128#32
  let v514 : BitVec 32 := Scalar.muli arg12 c128_i32_169
  v514
def k0_off3 (k0_t1 : Fin k0_t1_loop.trips) : Fin 2 → Nat :=
  let c32_170 : Index := 32#32
  let c0_i32_40 : BitVec 32 := 0#32
  let c1_i32_41 : BitVec 32 := 1#32
  let arg12 : BitVec 32 := Scf.iv c0_i32_40 c1_i32_41 k0_t1
  let c128_i32_169 : BitVec 32 := 128#32
  let v514 : BitVec 32 := Scalar.muli arg12 c128_i32_169
  let v515 : BitVec 32 := v514
  let v516 : Index := Scalar.indexCast v515
  ![32, v516.toNat]
def k0_mult6 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_171 : BitVec 32 := 128#32
  let v524 : BitVec 32 := Scalar.muli arg12 c128_i32_171
  v524
def k0_mult7 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_173 : BitVec 32 := 128#32
  let v530 : BitVec 32 := Scalar.muli arg12 c128_i32_173
  v530
def k0_off4 (k0_t1 : Fin k0_t1_loop.trips) : Fin 2 → Nat :=
  let c48_174 : Index := 48#32
  let c0_i32_40 : BitVec 32 := 0#32
  let c1_i32_41 : BitVec 32 := 1#32
  let arg12 : BitVec 32 := Scf.iv c0_i32_40 c1_i32_41 k0_t1
  let c128_i32_173 : BitVec 32 := 128#32
  let v530 : BitVec 32 := Scalar.muli arg12 c128_i32_173
  let v531 : BitVec 32 := v530
  let v532 : Index := Scalar.indexCast v531
  ![48, v532.toNat]
def k0_mult8 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_175 : BitVec 32 := 128#32
  let v540 : BitVec 32 := Scalar.muli arg12 c128_i32_175
  v540
def k0_mult9 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_177 : BitVec 32 := 128#32
  let v546 : BitVec 32 := Scalar.muli arg12 c128_i32_177
  v546
def k0_off5 (k0_t1 : Fin k0_t1_loop.trips) : Fin 2 → Nat :=
  let c64 : Index := 64#32
  let c0_i32_40 : BitVec 32 := 0#32
  let c1_i32_41 : BitVec 32 := 1#32
  let arg12 : BitVec 32 := Scf.iv c0_i32_40 c1_i32_41 k0_t1
  let c128_i32_177 : BitVec 32 := 128#32
  let v546 : BitVec 32 := Scalar.muli arg12 c128_i32_177
  let v547 : BitVec 32 := v546
  let v548 : Index := Scalar.indexCast v547
  ![64, v548.toNat]
def k0_mult10 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_178 : BitVec 32 := 128#32
  let v556 : BitVec 32 := Scalar.muli arg12 c128_i32_178
  v556
def k0_mult11 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_180 : BitVec 32 := 128#32
  let v562 : BitVec 32 := Scalar.muli arg12 c128_i32_180
  v562
def k0_off6 (k0_t1 : Fin k0_t1_loop.trips) : Fin 2 → Nat :=
  let c80 : Index := 80#32
  let c0_i32_40 : BitVec 32 := 0#32
  let c1_i32_41 : BitVec 32 := 1#32
  let arg12 : BitVec 32 := Scf.iv c0_i32_40 c1_i32_41 k0_t1
  let c128_i32_180 : BitVec 32 := 128#32
  let v562 : BitVec 32 := Scalar.muli arg12 c128_i32_180
  let v563 : BitVec 32 := v562
  let v564 : Index := Scalar.indexCast v563
  ![80, v564.toNat]
def k0_mult12 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_181 : BitVec 32 := 128#32
  let v572 : BitVec 32 := Scalar.muli arg12 c128_i32_181
  v572
def k0_mult13 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_183 : BitVec 32 := 128#32
  let v578 : BitVec 32 := Scalar.muli arg12 c128_i32_183
  v578
def k0_off7 (k0_t1 : Fin k0_t1_loop.trips) : Fin 2 → Nat :=
  let c96 : Index := 96#32
  let c0_i32_40 : BitVec 32 := 0#32
  let c1_i32_41 : BitVec 32 := 1#32
  let arg12 : BitVec 32 := Scf.iv c0_i32_40 c1_i32_41 k0_t1
  let c128_i32_183 : BitVec 32 := 128#32
  let v578 : BitVec 32 := Scalar.muli arg12 c128_i32_183
  let v579 : BitVec 32 := v578
  let v580 : Index := Scalar.indexCast v579
  ![96, v580.toNat]
def k0_mult14 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_184 : BitVec 32 := 128#32
  let v588 : BitVec 32 := Scalar.muli arg12 c128_i32_184
  v588
def k0_mult15 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_186 : BitVec 32 := 128#32
  let v594 : BitVec 32 := Scalar.muli arg12 c128_i32_186
  v594
def k0_off8 (k0_t1 : Fin k0_t1_loop.trips) : Fin 2 → Nat :=
  let c112 : Index := 112#32
  let c0_i32_40 : BitVec 32 := 0#32
  let c1_i32_41 : BitVec 32 := 1#32
  let arg12 : BitVec 32 := Scf.iv c0_i32_40 c1_i32_41 k0_t1
  let c128_i32_186 : BitVec 32 := 128#32
  let v594 : BitVec 32 := Scalar.muli arg12 c128_i32_186
  let v595 : BitVec 32 := v594
  let v596 : Index := Scalar.indexCast v595
  ![112, v596.toNat]
def k0_mult16 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_187 : BitVec 32 := 128#32
  let v604 : BitVec 32 := Scalar.muli arg12 c128_i32_187
  v604
def k0_mult17 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_189 : BitVec 32 := 128#32
  let v610 : BitVec 32 := Scalar.muli arg12 c128_i32_189
  v610
def k0_off9 (k0_t1 : Fin k0_t1_loop.trips) : Fin 2 → Nat :=
  let c128 : Index := 128#32
  let c0_i32_40 : BitVec 32 := 0#32
  let c1_i32_41 : BitVec 32 := 1#32
  let arg12 : BitVec 32 := Scf.iv c0_i32_40 c1_i32_41 k0_t1
  let c128_i32_189 : BitVec 32 := 128#32
  let v610 : BitVec 32 := Scalar.muli arg12 c128_i32_189
  let v611 : BitVec 32 := v610
  let v612 : Index := Scalar.indexCast v611
  ![128, v612.toNat]
def k0_mult18 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_190 : BitVec 32 := 128#32
  let v620 : BitVec 32 := Scalar.muli arg12 c128_i32_190
  v620
def k0_mult19 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_192 : BitVec 32 := 128#32
  let v626 : BitVec 32 := Scalar.muli arg12 c128_i32_192
  v626
def k0_off10 (k0_t1 : Fin k0_t1_loop.trips) : Fin 2 → Nat :=
  let c144 : Index := 144#32
  let c0_i32_40 : BitVec 32 := 0#32
  let c1_i32_41 : BitVec 32 := 1#32
  let arg12 : BitVec 32 := Scf.iv c0_i32_40 c1_i32_41 k0_t1
  let c128_i32_192 : BitVec 32 := 128#32
  let v626 : BitVec 32 := Scalar.muli arg12 c128_i32_192
  let v627 : BitVec 32 := v626
  let v628 : Index := Scalar.indexCast v627
  ![144, v628.toNat]
def k0_mult20 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_193 : BitVec 32 := 128#32
  let v636 : BitVec 32 := Scalar.muli arg12 c128_i32_193
  v636
def k0_mult21 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_195 : BitVec 32 := 128#32
  let v642 : BitVec 32 := Scalar.muli arg12 c128_i32_195
  v642
def k0_off11 (k0_t1 : Fin k0_t1_loop.trips) : Fin 2 → Nat :=
  let c160 : Index := 160#32
  let c0_i32_40 : BitVec 32 := 0#32
  let c1_i32_41 : BitVec 32 := 1#32
  let arg12 : BitVec 32 := Scf.iv c0_i32_40 c1_i32_41 k0_t1
  let c128_i32_195 : BitVec 32 := 128#32
  let v642 : BitVec 32 := Scalar.muli arg12 c128_i32_195
  let v643 : BitVec 32 := v642
  let v644 : Index := Scalar.indexCast v643
  ![160, v644.toNat]
def k0_mult22 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_196 : BitVec 32 := 128#32
  let v652 : BitVec 32 := Scalar.muli arg12 c128_i32_196
  v652
def k0_mult23 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_198 : BitVec 32 := 128#32
  let v658 : BitVec 32 := Scalar.muli arg12 c128_i32_198
  v658
def k0_off12 (k0_t1 : Fin k0_t1_loop.trips) : Fin 2 → Nat :=
  let c176 : Index := 176#32
  let c0_i32_40 : BitVec 32 := 0#32
  let c1_i32_41 : BitVec 32 := 1#32
  let arg12 : BitVec 32 := Scf.iv c0_i32_40 c1_i32_41 k0_t1
  let c128_i32_198 : BitVec 32 := 128#32
  let v658 : BitVec 32 := Scalar.muli arg12 c128_i32_198
  let v659 : BitVec 32 := v658
  let v660 : Index := Scalar.indexCast v659
  ![176, v660.toNat]
def k0_mult24 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_199 : BitVec 32 := 128#32
  let v668 : BitVec 32 := Scalar.muli arg12 c128_i32_199
  v668
def k0_mult25 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_201 : BitVec 32 := 128#32
  let v674 : BitVec 32 := Scalar.muli arg12 c128_i32_201
  v674
def k0_off13 (k0_t1 : Fin k0_t1_loop.trips) : Fin 2 → Nat :=
  let c192 : Index := 192#32
  let c0_i32_40 : BitVec 32 := 0#32
  let c1_i32_41 : BitVec 32 := 1#32
  let arg12 : BitVec 32 := Scf.iv c0_i32_40 c1_i32_41 k0_t1
  let c128_i32_201 : BitVec 32 := 128#32
  let v674 : BitVec 32 := Scalar.muli arg12 c128_i32_201
  let v675 : BitVec 32 := v674
  let v676 : Index := Scalar.indexCast v675
  ![192, v676.toNat]
def k0_mult26 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_202 : BitVec 32 := 128#32
  let v684 : BitVec 32 := Scalar.muli arg12 c128_i32_202
  v684
def k0_mult27 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_204 : BitVec 32 := 128#32
  let v690 : BitVec 32 := Scalar.muli arg12 c128_i32_204
  v690
def k0_off14 (k0_t1 : Fin k0_t1_loop.trips) : Fin 2 → Nat :=
  let c208 : Index := 208#32
  let c0_i32_40 : BitVec 32 := 0#32
  let c1_i32_41 : BitVec 32 := 1#32
  let arg12 : BitVec 32 := Scf.iv c0_i32_40 c1_i32_41 k0_t1
  let c128_i32_204 : BitVec 32 := 128#32
  let v690 : BitVec 32 := Scalar.muli arg12 c128_i32_204
  let v691 : BitVec 32 := v690
  let v692 : Index := Scalar.indexCast v691
  ![208, v692.toNat]
def k0_mult28 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_205 : BitVec 32 := 128#32
  let v700 : BitVec 32 := Scalar.muli arg12 c128_i32_205
  v700
def k0_mult29 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_207 : BitVec 32 := 128#32
  let v706 : BitVec 32 := Scalar.muli arg12 c128_i32_207
  v706
def k0_off15 (k0_t1 : Fin k0_t1_loop.trips) : Fin 2 → Nat :=
  let c224 : Index := 224#32
  let c0_i32_40 : BitVec 32 := 0#32
  let c1_i32_41 : BitVec 32 := 1#32
  let arg12 : BitVec 32 := Scf.iv c0_i32_40 c1_i32_41 k0_t1
  let c128_i32_207 : BitVec 32 := 128#32
  let v706 : BitVec 32 := Scalar.muli arg12 c128_i32_207
  let v707 : BitVec 32 := v706
  let v708 : Index := Scalar.indexCast v707
  ![224, v708.toNat]
def k0_mult30 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_208 : BitVec 32 := 128#32
  let v716 : BitVec 32 := Scalar.muli arg12 c128_i32_208
  v716
def k0_mult31 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_210 : BitVec 32 := 128#32
  let v722 : BitVec 32 := Scalar.muli arg12 c128_i32_210
  v722
def k0_off16 (k0_t1 : Fin k0_t1_loop.trips) : Fin 2 → Nat :=
  let c240 : Index := 240#32
  let c0_i32_40 : BitVec 32 := 0#32
  let c1_i32_41 : BitVec 32 := 1#32
  let arg12 : BitVec 32 := Scf.iv c0_i32_40 c1_i32_41 k0_t1
  let c128_i32_210 : BitVec 32 := 128#32
  let v722 : BitVec 32 := Scalar.muli arg12 c128_i32_210
  let v723 : BitVec 32 := v722
  let v724 : Index := Scalar.indexCast v723
  ![240, v724.toNat]
def k0_mult32 (k0_t1 : Fin k0_t1_loop.trips) : BitVec 32 :=
  let c0_i32_40 : BitVec 32 := 0#32
  let c1_i32_41 : BitVec 32 := 1#32
  let arg12 : BitVec 32 := Scf.iv c0_i32_40 c1_i32_41 k0_t1
  let c128_i32_211 : BitVec 32 := 128#32
  let v732 : BitVec 32 := Scalar.muli arg12 c128_i32_211
  v732
def k0_cond2 (i : grid0.Coords) : BitVec 1 :=
  let arg0 : BitVec 32 := BitVec.ofNat 32 (i 0).val
  let c2_i32 : BitVec 32 := 2#32
  let c0_i32_19 : BitVec 32 := 0#32
  let v41 : BitVec 1 := Scalar.cmpi .eq c2_i32 c0_i32_19
  let c1_i32_20 : BitVec 32 := 1#32
  let v42 : BitVec 32 := Scalar.select v41 c1_i32_20 c2_i32
  let v43 : BitVec 32 := Scalar.remsi arg0 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let c0_i32_24 : BitVec 32 := 0#32
  let v51 : BitVec 1 := Scalar.cmpi .eq v50 c0_i32_24
  let v52 : BitVec 32 := Scalar.extui v51
  let c0_i32_25 : BitVec 32 := 0#32
  let v53 : BitVec 1 := Scalar.cmpi .ne v52 c0_i32_25
  v53

def k0_off17 (i : grid0.Coords) (c0_i32_49 : BitVec 32) : Fin 3 → Nat :=
  let arg0 : BitVec 32 := BitVec.ofNat 32 (i 0).val
  let c7_i32_6 : BitVec 32 := 7#32
  let c0_i32_7 : BitVec 32 := 0#32
  let v20 : BitVec 1 := Scalar.cmpi .eq c7_i32_6 c0_i32_7
  let c1_i32_8 : BitVec 32 := 1#32
  let v21 : BitVec 32 := Scalar.select v20 c1_i32_8 c7_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c8_i32 : BitVec 32 := 8#32
  let v102 : BitVec 32 := Scalar.muli v29 c8_i32
  let v103 : BitVec 32 := Scalar.addi v102 c0_i32_49
  let v105 : Index := Scalar.indexCast v103
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c7_i32 : BitVec 32 := 7#32
  let c0_i32_3 : BitVec 32 := 0#32
  let v9 : BitVec 1 := Scalar.cmpi .sgt c7_i32 c0_i32_3
  let v10 : BitVec 32 := Scalar.extui v9
  let c0_i32_4 : BitVec 32 := 0#32
  let v11 : BitVec 1 := Scalar.cmpi .slt c7_i32 c0_i32_4
  let v12 : BitVec 32 := Scalar.extui v11
  let v13 : BitVec 32 := Scalar.subi v10 v12
  let v14 : BitVec 1 := Scalar.cmpi .ne v8 v13
  let v15 : BitVec 32 := Scalar.remsi arg0 c7_i32
  let c0_i32_5 : BitVec 32 := 0#32
  let v16 : BitVec 1 := Scalar.cmpi .ne v15 c0_i32_5
  let v17 : BitVec 1 := Scalar.andi v14 v16
  let v3 : BitVec 32 := Scalar.divsi arg0 c7_i32
  let c1_i32 : BitVec 32 := 1#32
  let v18 : BitVec 32 := Scalar.subi v3 c1_i32
  let v19 : BitVec 32 := Scalar.select v17 v18 v3
  let c7_i32_50 : BitVec 32 := 7#32
  let v104 : BitVec 32 := Scalar.minsi v19 c7_i32_50
  let v106 : Index := Scalar.indexCast v104
  let c0_51 : Index := 0#32
  ![v105.toNat, v106.toNat, 0]
def k0_mult33 (i : grid0.Coords) : BitVec 32 :=
  let arg0 : BitVec 32 := BitVec.ofNat 32 (i 0).val
  let c1_i32_12 : BitVec 32 := 1#32
  let v30 : BitVec 32 := Scalar.subi arg0 c1_i32_12
  let c7_i32_13 : BitVec 32 := 7#32
  let c0_i32_14 : BitVec 32 := 0#32
  let v31 : BitVec 1 := Scalar.cmpi .eq c7_i32_13 c0_i32_14
  let c1_i32_15 : BitVec 32 := 1#32
  let v32 : BitVec 32 := Scalar.select v31 c1_i32_15 c7_i32_13
  let v33 : BitVec 32 := Scalar.remsi v30 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c0_i32_1270 : BitVec 32 := 0#32
  let v5896 : BitVec 32 := Scalar.maxsi v40 c0_i32_1270
  let c2048_i32 : BitVec 32 := 2048#32
  let v5897 : BitVec 32 := Scalar.muli v5896 c2048_i32
  v5897
def k0_off18 (i : grid0.Coords) : Fin 2 → Nat :=
  let c0_1271 : Index := 0#32
  let arg0 : BitVec 32 := BitVec.ofNat 32 (i 0).val
  let c1_i32_12 : BitVec 32 := 1#32
  let v30 : BitVec 32 := Scalar.subi arg0 c1_i32_12
  let c7_i32_13 : BitVec 32 := 7#32
  let c0_i32_14 : BitVec 32 := 0#32
  let v31 : BitVec 1 := Scalar.cmpi .eq c7_i32_13 c0_i32_14
  let c1_i32_15 : BitVec 32 := 1#32
  let v32 : BitVec 32 := Scalar.select v31 c1_i32_15 c7_i32_13
  let v33 : BitVec 32 := Scalar.remsi v30 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c0_i32_1270 : BitVec 32 := 0#32
  let v5896 : BitVec 32 := Scalar.maxsi v40 c0_i32_1270
  let c2048_i32 : BitVec 32 := 2048#32
  let v5897 : BitVec 32 := Scalar.muli v5896 c2048_i32
  let v5898 : BitVec 32 := v5897
  let v5899 : Index := Scalar.indexCast v5898
  ![0, v5899.toNat]
def k0_cond3 (i : grid0.Coords) : BitVec 1 :=
  let arg0 : BitVec 32 := BitVec.ofNat 32 (i 0).val
  let c2_i32_26 : BitVec 32 := 2#32
  let c0_i32_27 : BitVec 32 := 0#32
  let v54 : BitVec 1 := Scalar.cmpi .eq c2_i32_26 c0_i32_27
  let c1_i32_28 : BitVec 32 := 1#32
  let v55 : BitVec 32 := Scalar.select v54 c1_i32_28 c2_i32_26
  let v56 : BitVec 32 := Scalar.remsi arg0 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let c1_i32_32 : BitVec 32 := 1#32
  let v64 : BitVec 1 := Scalar.cmpi .eq v63 c1_i32_32
  let v65 : BitVec 32 := Scalar.extui v64
  let c0_i32_33 : BitVec 32 := 0#32
  let v66 : BitVec 1 := Scalar.cmpi .ne v65 c0_i32_33
  v66

def k0_off19 (i : grid0.Coords) (c0_i32_49 : BitVec 32) : Fin 3 → Nat :=
  let arg0 : BitVec 32 := BitVec.ofNat 32 (i 0).val
  let c7_i32_6 : BitVec 32 := 7#32
  let c0_i32_7 : BitVec 32 := 0#32
  let v20 : BitVec 1 := Scalar.cmpi .eq c7_i32_6 c0_i32_7
  let c1_i32_8 : BitVec 32 := 1#32
  let v21 : BitVec 32 := Scalar.select v20 c1_i32_8 c7_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c8_i32 : BitVec 32 := 8#32
  let v102 : BitVec 32 := Scalar.muli v29 c8_i32
  let v103 : BitVec 32 := Scalar.addi v102 c0_i32_49
  let v105 : Index := Scalar.indexCast v103
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c7_i32 : BitVec 32 := 7#32
  let c0_i32_3 : BitVec 32 := 0#32
  let v9 : BitVec 1 := Scalar.cmpi .sgt c7_i32 c0_i32_3
  let v10 : BitVec 32 := Scalar.extui v9
  let c0_i32_4 : BitVec 32 := 0#32
  let v11 : BitVec 1 := Scalar.cmpi .slt c7_i32 c0_i32_4
  let v12 : BitVec 32 := Scalar.extui v11
  let v13 : BitVec 32 := Scalar.subi v10 v12
  let v14 : BitVec 1 := Scalar.cmpi .ne v8 v13
  let v15 : BitVec 32 := Scalar.remsi arg0 c7_i32
  let c0_i32_5 : BitVec 32 := 0#32
  let v16 : BitVec 1 := Scalar.cmpi .ne v15 c0_i32_5
  let v17 : BitVec 1 := Scalar.andi v14 v16
  let v3 : BitVec 32 := Scalar.divsi arg0 c7_i32
  let c1_i32 : BitVec 32 := 1#32
  let v18 : BitVec 32 := Scalar.subi v3 c1_i32
  let v19 : BitVec 32 := Scalar.select v17 v18 v3
  let c7_i32_50 : BitVec 32 := 7#32
  let v104 : BitVec 32 := Scalar.minsi v19 c7_i32_50
  let v106 : Index := Scalar.indexCast v104
  let c0_51 : Index := 0#32
  ![v105.toNat, v106.toNat, 0]
def k0_mult34 (i : grid0.Coords) : BitVec 32 :=
  let arg0 : BitVec 32 := BitVec.ofNat 32 (i 0).val
  let c1_i32_12 : BitVec 32 := 1#32
  let v30 : BitVec 32 := Scalar.subi arg0 c1_i32_12
  let c7_i32_13 : BitVec 32 := 7#32
  let c0_i32_14 : BitVec 32 := 0#32
  let v31 : BitVec 1 := Scalar.cmpi .eq c7_i32_13 c0_i32_14
  let c1_i32_15 : BitVec 32 := 1#32
  let v32 : BitVec 32 := Scalar.select v31 c1_i32_15 c7_i32_13
  let v33 : BitVec 32 := Scalar.remsi v30 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c0_i32_1270 : BitVec 32 := 0#32
  let v5896 : BitVec 32 := Scalar.maxsi v40 c0_i32_1270
  let c2048_i32 : BitVec 32 := 2048#32
  let v5897 : BitVec 32 := Scalar.muli v5896 c2048_i32
  v5897
def k0_off20 (i : grid0.Coords) : Fin 2 → Nat :=
  let c0_1271 : Index := 0#32
  let arg0 : BitVec 32 := BitVec.ofNat 32 (i 0).val
  let c1_i32_12 : BitVec 32 := 1#32
  let v30 : BitVec 32 := Scalar.subi arg0 c1_i32_12
  let c7_i32_13 : BitVec 32 := 7#32
  let c0_i32_14 : BitVec 32 := 0#32
  let v31 : BitVec 1 := Scalar.cmpi .eq c7_i32_13 c0_i32_14
  let c1_i32_15 : BitVec 32 := 1#32
  let v32 : BitVec 32 := Scalar.select v31 c1_i32_15 c7_i32_13
  let v33 : BitVec 32 := Scalar.remsi v30 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c0_i32_1270 : BitVec 32 := 0#32
  let v5896 : BitVec 32 := Scalar.maxsi v40 c0_i32_1270
  let c2048_i32 : BitVec 32 := 2048#32
  let v5897 : BitVec 32 := Scalar.muli v5896 c2048_i32
  let v5898 : BitVec 32 := v5897
  let v5899 : Index := Scalar.indexCast v5898
  ![0, v5899.toNat]
def k0_cond4 (i : grid0.Coords) : BitVec 1 :=
  let arg0 : BitVec 32 := BitVec.ofNat 32 (i 0).val
  let c0_i32_34 : BitVec 32 := 0#32
  let v67 : BitVec 1 := Scalar.cmpi .sgt arg0 c0_i32_34
  let c1_i32_12 : BitVec 32 := 1#32
  let v30 : BitVec 32 := Scalar.subi arg0 c1_i32_12
  let c7_i32_13 : BitVec 32 := 7#32
  let c0_i32_14 : BitVec 32 := 0#32
  let v31 : BitVec 1 := Scalar.cmpi .eq c7_i32_13 c0_i32_14
  let c1_i32_15 : BitVec 32 := 1#32
  let v32 : BitVec 32 := Scalar.select v31 c1_i32_15 c7_i32_13
  let v33 : BitVec 32 := Scalar.remsi v30 v32
  let c0_i32_17 : BitVec 32 := 0#32
  let v35 : BitVec 1 := Scalar.cmpi .slt v33 c0_i32_17
  let c0_i32_18 : BitVec 32 := 0#32
  let v36 : BitVec 1 := Scalar.cmpi .slt v32 c0_i32_18
  let v37 : BitVec 1 := Scalar.xori v35 v36
  let c0_i32_16 : BitVec 32 := 0#32
  let v34 : BitVec 1 := Scalar.cmpi .ne v33 c0_i32_16
  let v38 : BitVec 1 := Scalar.andi v37 v34
  let v39 : BitVec 32 := Scalar.addi v33 v32
  let v40 : BitVec 32 := Scalar.select v38 v39 v33
  let c6_i32 : BitVec 32 := 6#32
  let v68 : BitVec 1 := Scalar.cmpi .eq v40 c6_i32
  let v69 : BitVec 1 := Scalar.andi v67 v68
  let v70 : BitVec 32 := Scalar.extui v69
  let c0_i32_35 : BitVec 32 := 0#32
  let v71 : BitVec 1 := Scalar.cmpi .ne v70 c0_i32_35
  v71

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c55_i32 : BitVec 32 := 55#32
  let v0 : BitVec 32 := Scalar.minsi arg0 c55_i32
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c55_i32_3 : BitVec 32 := 55#32
  let v11 : BitVec 32 := Scalar.minsi arg0 c55_i32_3
  let c7_i32_4 : BitVec 32 := 7#32
  let v12 : BitVec 32 := Scalar.divsi v11 c7_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c7_i32_4 c0_i32_7
  let v19 : BitVec 32 := Scalar.extui v18
  let c0_i32_8 : BitVec 32 := 0#32
  let v20 : BitVec 1 := Scalar.cmpi .slt c7_i32_4 c0_i32_8
  let v21 : BitVec 32 := Scalar.extui v20
  let v22 : BitVec 32 := Scalar.subi v19 v21
  let v23 : BitVec 1 := Scalar.cmpi .ne v17 v22
  let v24 : BitVec 32 := Scalar.remsi v11 c7_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![v10.toNat, v28.toNat]

def cc0_transform_2 (i : grid0.Coords) : Fin 4 → Nat :=
  let arg0 : BitVec 32 := BitVec.ofNat 32 (i 0).val
  let c55_i32 : BitVec 32 := 55#32
  let v0 : BitVec 32 := Scalar.minsi arg0 c55_i32
  let c7_i32 : BitVec 32 := 7#32
  let c0_i32 : BitVec 32 := 0#32
  let v1 : BitVec 1 := Scalar.cmpi .eq c7_i32 c0_i32
  let c1_i32 : BitVec 32 := 1#32
  let v2 : BitVec 32 := Scalar.select v1 c1_i32 c7_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  let c0_i32_6 : BitVec 32 := 0#32
  ![v10.toNat, c0_i32_3.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.divsi v1 c7_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c7_i32 c0_i32_2
  let v9 : BitVec 32 := Scalar.extui v8
  let c0_i32_3 : BitVec 32 := 0#32
  let v10 : BitVec 1 := Scalar.cmpi .slt c7_i32 c0_i32_3
  let v11 : BitVec 32 := Scalar.extui v10
  let v12 : BitVec 32 := Scalar.subi v9 v11
  let v13 : BitVec 1 := Scalar.cmpi .ne v7 v12
  let v14 : BitVec 32 := Scalar.remsi v1 c7_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let v2 : BitVec 32 := Scalar.divsi v1 c7_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c7_i32 c0_i32_2
  let v9 : BitVec 32 := Scalar.extui v8
  let c0_i32_3 : BitVec 32 := 0#32
  let v10 : BitVec 1 := Scalar.cmpi .slt c7_i32 c0_i32_3
  let v11 : BitVec 32 := Scalar.extui v10
  let v12 : BitVec 32 := Scalar.subi v9 v11
  let v13 : BitVec 1 := Scalar.cmpi .ne v7 v12
  let v14 : BitVec 32 := Scalar.remsi v1 c7_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

abbrev stage0_0 : Fin 1 → Memref sig .tc .vmem S256x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2x8x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x56 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x256x14336 : Shape := ⟨3, ![1, 256, 14336]⟩
abbrev S7168x4096 : Shape := ⟨2, ![7168, 4096]⟩
abbrev S56x8x256x2 : Shape := ⟨4, ![56, 8, 256, 2]⟩
abbrev S56x8 : Shape := ⟨2, ![56, 8]⟩
abbrev S4096 : Shape := ⟨1, ![4096]⟩
abbrev S56x8x1x1 : Shape := ⟨4, ![56, 8, 1, 1]⟩
abbrev S56x128x8x512 : Shape := ⟨4, ![56, 128, 8, 512]⟩
abbrev S56x128x8x512x1 : Shape := ⟨5, ![56, 128, 8, 512, 1]⟩
abbrev S56x128x8x512x2 : Shape := ⟨5, ![56, 128, 8, 512, 2]⟩
abbrev S256x7168x2 : Shape := ⟨3, ![256, 7168, 2]⟩
abbrev S256x7168x1 : Shape := ⟨3, ![256, 7168, 1]⟩
abbrev S256x7168 : Shape := ⟨2, ![256, 7168]⟩
abbrev S256x4096 : Shape := ⟨2, ![256, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S1x256x14336, .bf16⟩
  | .hbm, ⟨1, _⟩ => ⟨S7168x4096, .i8⟩
  | .hbm, ⟨2, _⟩ => ⟨S56x8x256x2, .i8⟩
  | .hbm, ⟨3, _⟩ => ⟨S56x8, .bf16⟩
  | .hbm, ⟨4, _⟩ => ⟨S4096, .f32⟩
  | .hbm, ⟨5, _⟩ => ⟨S56x8x256x2, .i32⟩
  | .hbm, ⟨6, _⟩ => ⟨S56x8x256x2, .f32⟩
  | .hbm, ⟨7, _⟩ => ⟨S56x8x256x2, .bf16⟩
  | .hbm, ⟨8, _⟩ => ⟨S56x8x1x1, .bf16⟩
  | .hbm, ⟨9, _⟩ => ⟨S56x8x256x2, .bf16⟩
  | .hbm, ⟨10, _⟩ => ⟨S56x8x256x2, .bf16⟩
  | .hbm, ⟨11, _⟩ => ⟨S7168x4096, .i32⟩
  | .hbm, ⟨12, _⟩ => ⟨S56x128x8x512, .i32⟩
  | .hbm, ⟨13, _⟩ => ⟨S56x128x8x512x1, .i32⟩
  | .hbm, ⟨14, _⟩ => ⟨S56x128x8x512x2, .bf16⟩
  | .hbm, ⟨15, _⟩ => ⟨S56x128x8x512x1, .bf16⟩
  | .hbm, ⟨16, _⟩ => ⟨S56x128x8x512, .bf16⟩
  | .hbm, ⟨17, _⟩ => ⟨S7168x4096, .bf16⟩
  | .hbm, ⟨18, _⟩ => ⟨S56x128x8x512x1, .bf16⟩
  | .hbm, ⟨19, _⟩ => ⟨S56x128x8x512, .bf16⟩
  | .hbm, ⟨20, _⟩ => ⟨S7168x4096, .bf16⟩
  | .hbm, ⟨21, _⟩ => ⟨S256x7168x2, .bf16⟩
  | .hbm, ⟨22, _⟩ => ⟨S256x7168x1, .bf16⟩
  | .hbm, ⟨23, _⟩ => ⟨S256x7168, .bf16⟩
  | .hbm, ⟨24, _⟩ => ⟨S256x7168x1, .bf16⟩
  | .hbm, ⟨25, _⟩ => ⟨S256x7168, .bf16⟩
  | .hbm, ⟨26, _⟩ => ⟨S256x4096, .f32⟩
  | .hbm, ⟨27, _⟩ => ⟨S256x4096, .f32⟩
  | .hbm, ⟨28, _⟩ => ⟨S256x4096, .f32⟩
  | .hbm, ⟨29, _⟩ => ⟨S1x4096, .f32⟩
  | .hbm, ⟨30, _⟩ => ⟨S256x4096, .f32⟩
  | .hbm, ⟨31, _⟩ => ⟨S256x4096, .f32⟩
  | .hbm, ⟨32, _⟩ => ⟨S256x4096, .bf16⟩
  | _, _ => ⟨S1x256x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Proof.Kernel.Buffers.lean ====
/-
  The kernel's buffers on a core, as the runs of its body name them.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The first grid point. -/
def i0 : grid0.Coords := grid0.coords ⟨0, by decide⟩
/-- At the first point the block scales are read at block 0, group 0. -/
instance : ClosedOff (k0_off17 i0 0#32) := ⟨![0, 0, 0], by decide +kernel⟩
/-- At the first point the block scales are read at block 1, group 0. -/
instance : ClosedOff (k0_off17 i0 1#32) := ⟨![1, 0, 0], by decide +kernel⟩
/-- At the first point the block scales are read at block 2, group 0. -/
instance : ClosedOff (k0_off17 i0 2#32) := ⟨![2, 0, 0], by decide +kernel⟩
/-- At the first point the block scales are read at block 3, group 0. -/
instance : ClosedOff (k0_off17 i0 3#32) := ⟨![3, 0, 0], by decide +kernel⟩
/-- At the first point the block scales are read at block 4, group 0. -/
instance : ClosedOff (k0_off17 i0 4#32) := ⟨![4, 0, 0], by decide +kernel⟩
/-- At the first point the block scales are read at block 5, group 0. -/
instance : ClosedOff (k0_off17 i0 5#32) := ⟨![5, 0, 0], by decide +kernel⟩
/-- At the first point the block scales are read at block 6, group 0. -/
instance : ClosedOff (k0_off17 i0 6#32) := ⟨![6, 0, 0], by decide +kernel⟩
/-- At the first point the block scales are read at block 7, group 0. -/
instance : ClosedOff (k0_off17 i0 7#32) := ⟨![7, 0, 0], by decide +kernel⟩
/-- At the first point the columns of the input are read from column 12288. -/
instance : ClosedOff (k0_off18 i0) := ⟨![0, 12288], by decide +kernel⟩

end Cert.Proof.Kernel

end
-- ==== Proof.Kernel.First.lean ====
/-
  One run of the kernel body at the FIRST grid point: the lanes of the input are split by parity, the block scales are
  spread over the lanes, and the first tile is decoded into the first weight buffer; the product taken here reads
  buffers nothing has filled, and the next point overwrites it. What the buffers hold afterwards is found by the run.
-/
module

public import proofs.«01_k».proof.Proof.Kernel.Buffers

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at the first point, with what it leaves in the scratch buffers. -/
noncomputable def firstRun (c : Dev nD)
    (hc1 : k0_cond1 i0 = 1#1) (hc2 : k0_cond2 i0 = 1#1) (hc3 : ¬ k0_cond3 i0 = 1#1) (hc4 : ¬ k0_cond4 i0 = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) :
    { W : Bf (F := F) c M7 × Bf (F := F) c M8 × Bf (F := F) c M9 × Bf (F := F) c M11 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 W.1 ∗ pt c M8 W.2.1 ∗ pt c M9 W.2.2.1 ∗ pt c M10 f10 ∗ pt c M11 W.2.2.2) -∗ Q ⟨⟩))
        ⊢ wp frame (wpE (defs₀ (F := F)) Variants.none c none) E
            (cc0_main i0 M1 h1 M2 h2 M3 h3 M4 h4 M5 h5 M6 h6 M7 h7 M8 h8 M9 h9 M10 h10 M11 h11) Q } := by
  refine ⟨⟨?_, ?_, ?_, ?_⟩, fun E Q => ?run⟩
  case run =>
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.Kernel

end
-- ==== Proof.Kernel.Even.lean ====
/-
  One run of the kernel body at an EVEN grid point after the first: the tile of the point is decoded into the first
  weight buffer, the product with the tile decoded at the point before is added into the accumulator, and the result
  block is stored when that tile was the last of its column. What the buffers hold afterwards is found by the run.
-/
module

public import proofs.«01_k».proof.Proof.Kernel.Buffers

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at an even point after the first, with what it leaves in the buffers it writes. -/
noncomputable def evenRun (c : Dev nD) (i : grid0.Coords)
    (hc1 : ¬ k0_cond1 i = 1#1) (hc2 : k0_cond2 i = 1#1) (hc3 : ¬ k0_cond3 i = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) :
    { W : Bf (F := F) c M6 × Bf (F := F) c M8 × Bf (F := F) c M9 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 W.1 ∗ pt c M7 f7 ∗ pt c M8 W.2.1 ∗ pt c M9 W.2.2 ∗ pt c M10 f10 ∗ pt c M11 f11) -∗ Q ⟨⟩))
        ⊢ wp frame (wpE (defs₀ (F := F)) Variants.none c none) E
            (cc0_main i M1 h1 M2 h2 M3 h3 M4 h4 M5 h5 M6 h6 M7 h7 M8 h8 M9 h9 M10 h10 M11 h11) Q } := by
  refine ⟨⟨?_, ?_, ?_⟩, fun E Q => ?run⟩
  case run =>
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.Kernel

end
-- ==== Proof.Kernel.Odd.lean ====
/-
  One run of the kernel body at an ODD grid point: the tile of the point is decoded into the second weight buffer, the
  product with the tile decoded at the point before is added into the accumulator, and the result block is stored when
  that tile was the last of its column. What the buffers hold afterwards is found by the run.
-/
module

public import proofs.«01_k».proof.Proof.Kernel.Buffers

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at an odd point, with what it leaves in the buffers it writes. -/
noncomputable def oddRun (c : Dev nD) (i : grid0.Coords)
    (hc1 : ¬ k0_cond1 i = 1#1) (hc2 : ¬ k0_cond2 i = 1#1) (hc3 : k0_cond3 i = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) :
    { W : Bf (F := F) c M6 × Bf (F := F) c M8 × Bf (F := F) c M10 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 W.1 ∗ pt c M7 f7 ∗ pt c M8 W.2.1 ∗ pt c M9 f9 ∗ pt c M10 W.2.2 ∗ pt c M11 f11) -∗ Q ⟨⟩))
        ⊢ wp frame (wpE (defs₀ (F := F)) Variants.none c none) E
            (cc0_main i M1 h1 M2 h2 M3 h3 M4 h4 M5 h5 M6 h6 M7 h7 M8 h8 M9 h9 M10 h10 M11 h11) Q } := by
  refine ⟨⟨?_, ?_, ?_⟩, fun E Q => ?run⟩
  case run =>
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.Kernel

end
-- ==== Proof.Kernel.Launch.lean ====
/-
  The launch: the body's runs are the pipeline's body obligation, for any statement about the scratch buffers and the
  result block that the runs carry from point to point; so every run of @main ends, with the arguments unchanged, every
  counter at zero, and each result block flushed at a point as the statement says.
-/
module

public import proofs.«01_k».proof.Proof.Kernel.First
public import proofs.«01_k».proof.Proof.Kernel.Even
public import proofs.«01_k».proof.Proof.Kernel.Odd
public import Idealize.ShloMosaic.Lib.Pipeline.Frame
public import Idealize.ShloMosaic.Lib.Pipeline.DatRel

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The points of the grid -/

/-- The first point fills the scratch buffers and decodes into the first weight buffer. -/
theorem cond_i0 : k0_cond1 i0 = 1#1 ∧ k0_cond2 i0 = 1#1 ∧ (¬ k0_cond3 i0 = 1#1) ∧ ¬ k0_cond4 i0 = 1#1 := by decide +kernel
/-- A later point fills nothing; an even one decodes into the first weight buffer, an odd one into the second. -/
theorem cond_pos : ∀ t : Fin cfg0.N, t.val ≠ 0 → (¬ k0_cond1 (grid0.coords t) = 1#1)
    ∧ (t.val % 2 = 0 → k0_cond2 (grid0.coords t) = 1#1 ∧ ¬ k0_cond3 (grid0.coords t) = 1#1)
    ∧ (t.val % 2 = 1 → (¬ k0_cond2 (grid0.coords t) = 1#1) ∧ k0_cond3 (grid0.coords t) = 1#1) := by decide +kernel
theorem c1_pos (t : Fin cfg0.N) (h0 : t.val ≠ 0) : ¬ k0_cond1 (grid0.coords t) = 1#1 := (cond_pos t h0).1
theorem c2_even (t : Fin cfg0.N) (h0 : t.val ≠ 0) (h : t.val % 2 = 0) : k0_cond2 (grid0.coords t) = 1#1 := ((cond_pos t h0).2.1 h).1
theorem c3_even (t : Fin cfg0.N) (h0 : t.val ≠ 0) (h : t.val % 2 = 0) : ¬ k0_cond3 (grid0.coords t) = 1#1 := ((cond_pos t h0).2.1 h).2
theorem c2_odd (t : Fin cfg0.N) (h0 : t.val ≠ 0) (h : t.val % 2 = 1) : ¬ k0_cond2 (grid0.coords t) = 1#1 := ((cond_pos t h0).2.2 h).1
theorem c3_odd (t : Fin cfg0.N) (h0 : t.val ≠ 0) (h : t.val % 2 = 1) : k0_cond3 (grid0.coords t) = 1#1 := ((cond_pos t h0).2.2 h).2

/-! ## What the windows hold, and what a proof says of the scratch buffers and the result -/

/-- What window 0, the input, holds at point `t`. -/
abbrev blk1 (c : Dev nD) (t : Fin cfg0.N) : S256x14336.Idx → Elt F .bf16 := iblk m c 0 t
/-- What window 1, the index tile, holds at point `t`. -/
abbrev blk2 (c : Dev nD) (t : Fin cfg0.N) : S1024x512.Idx → Elt F .i8 := iblk m c 1 t
/-- What window 2, the tables of the block row, holds at point `t`. -/
abbrev blk3 (c : Dev nD) (t : Fin cfg0.N) : S8x2x8x256.Idx → Elt F .i8 := iblk m c 2 t
/-- What window 3, the block scales, holds at point `t`. -/
abbrev blk4 (c : Dev nD) (t : Fin cfg0.N) : S8x56.Idx → Elt F .bf16 := iblk m c 3 t
/-- What window 4, the column scales, holds at point `t`. -/
abbrev blk5 (c : Dev nD) (t : Fin cfg0.N) : S1x512.Idx → Elt F .f32 := iblk m c 4 t

/-- A statement about the five scratch buffers before each point. -/
abbrev InvTy : Type := (c : Dev nD) → ℕ → Bf (F := F) c (Memref.whole cc0_scratch0) → Bf (F := F) c (Memref.whole cc0_scratch1) → Bf (F := F) c (Memref.whole cc0_scratch2) → Bf (F := F) c (Memref.whole cc0_scratch3) → Bf (F := F) c (Memref.whole cc0_scratch4) → Prop
/-- A statement about the result block each point leaves. -/
abbrev RlTy : Type := (c : Dev nD) → Fin cfg0.N → (S256x512.Idx → Elt F .bf16) → Prop

/-- The statements pass through every point: they hold after the first point whatever the buffers held, and a later
    point takes them on. -/
structure Passes (Inv : InvTy (F := F)) (Rl : RlTy (F := F)) : Prop where
  start : ∀ c f7 f8 f9 f10 f11, Inv c 0 f7 f8 f9 f10 f11
  first : ∀ (c : Dev nD) (t : Fin cfg0.N) (ht : t.val = 0) (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c (Memref.whole cc0_scratch0)) (f8 : Bf (F := F) c (Memref.whole cc0_scratch1)) (f9 : Bf (F := F) c (Memref.whole cc0_scratch2)) (f10 : Bf (F := F) c (Memref.whole cc0_scratch3)) (f11 : Bf (F := F) c (Memref.whole cc0_scratch4)),
    M1.view.read (Elt F) f1 = blk1 m c t → M2.view.read (Elt F) f2 = blk2 m c t → M3.view.read (Elt F) f3 = blk3 m c t → M4.view.read (Elt F) f4 = blk4 m c t → M5.view.read (Elt F) f5 = blk5 m c t →
    Inv c (t.val + 1) (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2.1 f10 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2.2 ∧ Rl c t (M6.view.read (Elt F) f6)
  even : ∀ (c : Dev nD) (t : Fin cfg0.N) (h0 : t.val ≠ 0) (ht : t.val % 2 = 0) (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c (Memref.whole cc0_scratch0)) (f8 : Bf (F := F) c (Memref.whole cc0_scratch1)) (f9 : Bf (F := F) c (Memref.whole cc0_scratch2)) (f10 : Bf (F := F) c (Memref.whole cc0_scratch3)) (f11 : Bf (F := F) c (Memref.whole cc0_scratch4)),
    M1.view.read (Elt F) f1 = blk1 m c t → M2.view.read (Elt F) f2 = blk2 m c t → M3.view.read (Elt F) f3 = blk3 m c t → M4.view.read (Elt F) f4 = blk4 m c t → M5.view.read (Elt F) f5 = blk5 m c t → Inv c t.val f7 f8 f9 f10 f11 →
    Inv c (t.val + 1) f7 (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 f10 f11 ∧ Rl c t (M6.view.read (Elt F) (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1)
  odd : ∀ (c : Dev nD) (t : Fin cfg0.N) (h0 : t.val ≠ 0) (ht : t.val % 2 = 1) (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c (Memref.whole cc0_scratch0)) (f8 : Bf (F := F) c (Memref.whole cc0_scratch1)) (f9 : Bf (F := F) c (Memref.whole cc0_scratch2)) (f10 : Bf (F := F) c (Memref.whole cc0_scratch3)) (f11 : Bf (F := F) c (Memref.whole cc0_scratch4)),
    M1.view.read (Elt F) f1 = blk1 m c t → M2.view.read (Elt F) f2 = blk2 m c t → M3.view.read (Elt F) f3 = blk3 m c t → M4.view.read (Elt F) f4 = blk4 m c t → M5.view.read (Elt F) f5 = blk5 m c t → Inv c t.val f7 f8 f9 f10 f11 →
    Inv c (t.val + 1) f7 (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 f9 (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 f11 ∧ Rl c t (M6.view.read (Elt F) (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1)

variable (Inv : InvTy (F := F)) (Rl : RlTy (F := F))

/-! ## The proof data -/

/-- The one window a run writes, the result, is held to `Rl`. -/
def marks : Fin cfg0.W → Bool := fun w => w == 5

/-- `Rl`, of the result's window. -/
def rel (c : Dev nD) : (w : Fin cfg0.W) → Fin cfg0.N → ((cfg0.win w).block.Idx → Elt F (cfg0.win w).elt) → Prop
  | 5, t, X => Rl c t X
  | _, _, _ => True

/-- The scratch buffers before point `n`: whole, at contents `Inv` holds of; and the generator's register. -/
def scr (c : Dev nD) (n : ℕ) : sProp 𝕄 :=
  iprop((∃ f7 f8 f9 f10 f11, ⌜Inv c n f7 f8 f9 f10 f11⌝ ∗ pt c (Memref.whole cc0_scratch0) f7 ∗ pt c (Memref.whole cc0_scratch1) f8 ∗ pt c (Memref.whole cc0_scratch2) f9 ∗ pt c (Memref.whole cc0_scratch3) f10 ∗ pt c (Memref.whole cc0_scratch4) f11) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => Pipeline.Dat.unnamed (cfg := cfg0) 5 t
    | ⟨_ + 6, h⟩, _ => absurd h (Nat.not_lt.2 (Nat.le_add_left _ _))
  Φ t := scr Inv c t.val
  q _ := fullShare
  owed _ := 0

theorem A_eq (c : Dev nD) (w : Fin cfg0.W) : (dats m Inv 0 c).A w = V m c (Pipeline.arrRef spec0 w) := by dsimp only [dats]

theorem before_0 (c : Dev nD) (t : Fin cfg0.N) (d) : (dats m Inv 0 c).before 0 t d = iblk m c 0 t :=
  before0_0_of m (dats m Inv 0 c) (A_eq m Inv c 0) (fun _ => rfl) t d
theorem before_1 (c : Dev nD) (t : Fin cfg0.N) (d) : (dats m Inv 0 c).before 1 t d = iblk m c 1 t :=
  before0_1_of m (dats m Inv 0 c) (A_eq m Inv c 1) (fun _ => rfl) t d
theorem before_2 (c : Dev nD) (t : Fin cfg0.N) (d) : (dats m Inv 0 c).before 2 t d = iblk m c 2 t :=
  before0_2_of m (dats m Inv 0 c) (A_eq m Inv c 2) (fun _ => rfl) t d
theorem before_3 (c : Dev nD) (t : Fin cfg0.N) (d) : (dats m Inv 0 c).before 3 t d = iblk m c 3 t :=
  before0_3_of m (dats m Inv 0 c) (A_eq m Inv c 3) (fun _ => rfl) t d
theorem before_4 (c : Dev nD) (t : Fin cfg0.N) (d) : (dats m Inv 0 c).before 4 t d = iblk m c 4 t :=
  before0_4_of m (dats m Inv 0 c) (A_eq m Inv c 4) (fun _ => rfl) t d

/-- A whole memref owned at `X`: its buffer held at contents that read `X`. -/
theorem owns_pt (c : Dev nD) {sp : Space} {S : Shape} {e : EltTy} (M : Memref sig .tc sp S e) (X : S.Idx → Elt F e) :
    (owns (c : Thread nD τ) M fullShare X : sProp 𝕄) = iprop(∃ f, ⌜M.view.read (Elt F) f = X⌝ ∗ pt c M f) := rfl

/-- What the body is called with at point `t`, and what it returns. -/
def bodyPre (c : Dev nD) (t : Fin cfg0.N) (M1 : Memref sig .tc .vmem S256x14336 .bf16) (M2 : Memref sig .tc .vmem S1024x512 .i8) (M3 : Memref sig .tc .vmem S8x2x8x256 .i8) (M4 : Memref sig .tc .vmem S8x56 .bf16) (M5 : Memref sig .tc .vmem S1x512 .f32) (M6 : Memref sig .tc .vmem S256x512 .bf16) : sProp 𝕄 :=
  iprop(scr Inv c t.val ∗ (dats m Inv 0 c).owesAt () t.castSucc
    ∗ owns (c : Thread nD τ) M1 fullShare (blk1 m c t) ∗ owns (c : Thread nD τ) M2 fullShare (blk2 m c t) ∗ owns (c : Thread nD τ) M3 fullShare (blk3 m c t) ∗ owns (c : Thread nD τ) M4 fullShare (blk4 m c t) ∗ owns (c : Thread nD τ) M5 fullShare (blk5 m c t)
    ∗ ∃ X, owns (c : Thread nD τ) M6 fullShare X)
def bodyPost (c : Dev nD) (t : Fin cfg0.N) (M1 : Memref sig .tc .vmem S256x14336 .bf16) (M2 : Memref sig .tc .vmem S1024x512 .i8) (M3 : Memref sig .tc .vmem S8x2x8x256 .i8) (M4 : Memref sig .tc .vmem S8x56 .bf16) (M5 : Memref sig .tc .vmem S1x512 .f32) (M6 : Memref sig .tc .vmem S256x512 .bf16) : sProp 𝕄 :=
  iprop(scr Inv c (t.val + 1) ∗ (dats m Inv 0 c).owesAt () t.castSucc
    ∗ owns (c : Thread nD τ) M1 fullShare (blk1 m c t) ∗ owns (c : Thread nD τ) M2 fullShare (blk2 m c t) ∗ owns (c : Thread nD τ) M3 fullShare (blk3 m c t) ∗ owns (c : Thread nD τ) M4 fullShare (blk4 m c t) ∗ owns (c : Thread nD τ) M5 fullShare (blk5 m c t)
    ∗ ∃ X, ⌜Rl c t X⌝ ∗ owns (c : Thread nD τ) M6 fullShare X)

/-- The body at the first point. -/
theorem point_first (hP : Passes m Inv Rl) (c : Dev nD) (t : Fin cfg0.N) (ht : t.val = 0)
    (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole) :
    bodyPre m Inv c t M1 M2 M3 M4 M5 M6 ⊢ wp frame (wpE (defs₀ (F := F)) Variants.none c none) Set.univ
      (cc0_main (grid0.coords t) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => bodyPost m Inv Rl c t M1 M2 M3 M4 M5 M6) := by
  unfold bodyPre bodyPost scr
  simp only [owns_pt]
  iintro ⟨⟨⟨%f7, %f8, %f9, %f10, %f11, %hI, H7, H8, H9, H10, H11⟩, Hg⟩, HO, ⟨%f1, %e1, H1⟩, ⟨%f2, %e2, H2⟩, ⟨%f3, %e3, H3⟩, ⟨%f4, %e4, H4⟩, ⟨%f5, %e5, H5⟩, ⟨%X, %f6, -, H6⟩⟩
  have hN := hP.first c t ht M1 h1 M2 h2 M3 h3 M4 h4 M5 h5 M6 h6 f1 f2 f3 f4 f5 f6 f7 f8 f9 f10 f11 e1 e2 e3 e4 e5
  rw [show grid0.coords t = i0 from congrArg grid0.coords (Fin.ext ht)]
  iapply (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H7 H8 H9 H10 H11 Hg]
  · isplitr [Hg]
    · iexists _, _, _, _, _
      isplitr; · ipureintro; exact hN.1
      isplitl [H7]; · iexact H7
      isplitl [H8]; · iexact H8
      isplitl [H9]; · iexact H9
      isplitl [H10]; · iexact H10
      iexact H11
    iexact Hg
  isplitl [HO]; · iexact HO
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; · ipureintro; exact hN.2
  iexists _; isplitr; swap; · iexact H6
  ipureintro; rfl

/-- The body at an even point after the first. -/
theorem point_even (hP : Passes m Inv Rl) (c : Dev nD) (t : Fin cfg0.N) (h0 : t.val ≠ 0) (ht : t.val % 2 = 0)
    (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole) :
    bodyPre m Inv c t M1 M2 M3 M4 M5 M6 ⊢ wp frame (wpE (defs₀ (F := F)) Variants.none c none) Set.univ
      (cc0_main (grid0.coords t) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => bodyPost m Inv Rl c t M1 M2 M3 M4 M5 M6) := by
  unfold bodyPre bodyPost scr
  simp only [owns_pt]
  iintro ⟨⟨⟨%f7, %f8, %f9, %f10, %f11, %hI, H7, H8, H9, H10, H11⟩, Hg⟩, HO, ⟨%f1, %e1, H1⟩, ⟨%f2, %e2, H2⟩, ⟨%f3, %e3, H3⟩, ⟨%f4, %e4, H4⟩, ⟨%f5, %e5, H5⟩, ⟨%X, %f6, -, H6⟩⟩
  have hN := hP.even c t h0 ht M1 h1 M2 h2 M3 h3 M4 h4 M5 h5 M6 h6 f1 f2 f3 f4 f5 f6 f7 f8 f9 f10 f11 e1 e2 e3 e4 e5 hI
  iapply (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H7 H8 H9 H10 H11 Hg]
  · isplitr [Hg]
    · iexists _, _, _, _, _
      isplitr; · ipureintro; exact hN.1
      isplitl [H7]; · iexact H7
      isplitl [H8]; · iexact H8
      isplitl [H9]; · iexact H9
      isplitl [H10]; · iexact H10
      iexact H11
    iexact Hg
  isplitl [HO]; · iexact HO
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; · ipureintro; exact hN.2
  iexists _; isplitr; swap; · iexact H6
  ipureintro; rfl

/-- The body at an odd point. -/
theorem point_odd (hP : Passes m Inv Rl) (c : Dev nD) (t : Fin cfg0.N) (h0 : t.val ≠ 0) (ht : t.val % 2 = 1)
    (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole) :
    bodyPre m Inv c t M1 M2 M3 M4 M5 M6 ⊢ wp frame (wpE (defs₀ (F := F)) Variants.none c none) Set.univ
      (cc0_main (grid0.coords t) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => bodyPost m Inv Rl c t M1 M2 M3 M4 M5 M6) := by
  unfold bodyPre bodyPost scr
  simp only [owns_pt]
  iintro ⟨⟨⟨%f7, %f8, %f9, %f10, %f11, %hI, H7, H8, H9, H10, H11⟩, Hg⟩, HO, ⟨%f1, %e1, H1⟩, ⟨%f2, %e2, H2⟩, ⟨%f3, %e3, H3⟩, ⟨%f4, %e4, H4⟩, ⟨%f5, %e5, H5⟩, ⟨%X, %f6, -, H6⟩⟩
  have hN := hP.odd c t h0 ht M1 h1 M2 h2 M3 h3 M4 h4 M5 h5 M6 h6 f1 f2 f3 f4 f5 f6 f7 f8 f9 f10 f11 e1 e2 e3 e4 e5 hI
  iapply (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H7 H8 H9 H10 H11 Hg]
  · isplitr [Hg]
    · iexists _, _, _, _, _
      isplitr; · ipureintro; exact hN.1
      isplitl [H7]; · iexact H7
      isplitl [H8]; · iexact H8
      isplitl [H9]; · iexact H9
      isplitl [H10]; · iexact H10
      iexact H11
    iexact Hg
  isplitl [HO]; · iexact HO
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; · ipureintro; exact hN.2
  iexists _; isplitr; swap; · iexact H6
  ipureintro; rfl

/-- The body at any point. -/
theorem sound_body (hP : Passes m Inv Rl) (c : Dev nD) (t : Fin cfg0.N) :
    bodyPre m Inv c t (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) ⊢ wp frame (wpE (defs₀ (F := F)) Variants.none c none) Set.univ (bodyAt0 t)
      (fun _ => bodyPost m Inv Rl c t (win0_0.stage (cfg0.slots t 0)) (win0_1.stage (cfg0.slots t 1)) (win0_2.stage (cfg0.slots t 2)) (win0_3.stage (cfg0.slots t 3)) (win0_4.stage (cfg0.slots t 4)) (win0_5.stage (cfg0.slots t 5))) := by
  by_cases h0 : t.val = 0
  · exact point_first m Inv Rl hP c t h0 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
  · rcases Nat.mod_two_eq_zero_or_one t.val with h | h
    · exact point_even m Inv Rl hP c t h0 h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    · exact point_odd m Inv Rl hP c t h0 h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))

theorem defs₀_row (t : Fin cfg0.N) : defs₀ (F := F) .tc cfg0.body (cfg0.bodyArgs t (cfg0.slots t)) = bodyAt0 t := by
  unfold defs₀; rw [Defs.onTc_tc]

/-- The library's body obligation, the result held to `Rl`. -/
theorem body_obligation (hP : Passes m Inv Rl) (c : Dev nD) :
    Pipeline.BodyObligationRel (dats m Inv 0 c) (defs₀ (F := F)) Variants.none () Set.univ marks (rel Rl c) := fun t => by
  rw [bigSep_W0, bigSep_W0, defs₀_row]
  refine triple_restated (sound_body m Inv Rl hP c t) rfl ?_ fun _ => .rfl
  show iprop(scr Inv c t.val ∗ (dats m Inv 0 c).owesAt () t.castSucc
    ∗ (∃ d, owns (c : Thread nD τ) (win0_0.stage (cfg0.slots t 0)) fullShare ((dats m Inv 0 c).before 0 t d)) ∗ (∃ d, owns (c : Thread nD τ) (win0_1.stage (cfg0.slots t 1)) fullShare ((dats m Inv 0 c).before 1 t d)) ∗ (∃ d, owns (c : Thread nD τ) (win0_2.stage (cfg0.slots t 2)) fullShare ((dats m Inv 0 c).before 2 t d)) ∗ (∃ d, owns (c : Thread nD τ) (win0_3.stage (cfg0.slots t 3)) fullShare ((dats m Inv 0 c).before 3 t d)) ∗ (∃ d, owns (c : Thread nD τ) (win0_4.stage (cfg0.slots t 4)) fullShare ((dats m Inv 0 c).before 4 t d))
    ∗ ∃ X, ⌜_⌝ ∗ owns (c : Thread nD τ) (win0_5.stage (cfg0.slots t 5)) fullShare X) ⊢ _
  unfold bodyPre
  iintro ⟨HΦ, HO, ⟨%d0, H0⟩, ⟨%d1, H1⟩, ⟨%d2, H2⟩, ⟨%d3, H3⟩, ⟨%d4, H4⟩, ⟨%X, -, H5⟩⟩
  isplitl [HΦ]; · iexact HΦ
  isplitl [HO]; · iexact HO
  isplitl [H0]; · rw [show blk1 m c t = (dats m Inv 0 c).before 0 t d0 from (before_0 m Inv c t d0).symm]; iexact H0
  isplitl [H1]; · rw [show blk2 m c t = (dats m Inv 0 c).before 1 t d1 from (before_1 m Inv c t d1).symm]; iexact H1
  isplitl [H2]; · rw [show blk3 m c t = (dats m Inv 0 c).before 2 t d2 from (before_2 m Inv c t d2).symm]; iexact H2
  isplitl [H3]; · rw [show blk4 m c t = (dats m Inv 0 c).before 3 t d3 from (before_3 m Inv c t d3).symm]; iexact H3
  isplitl [H4]; · rw [show blk5 m c t = (dats m Inv 0 c).before 4 t d4 from (before_4 m Inv c t d4).symm]; iexact H4
  iexists X; iexact H5

/-! ## The launch -/

/-- The scratch buffers at any contents, as the launch has them. -/
theorem PhiA_eq (c : Dev nD) : (Pipeline.ΦA spec0 c : sProp 𝕄)
    = iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)) ∗ ∃ r, prngReg c r) := by
  unfold Pipeline.ΦA
  rw [scopedRest0_eq]
  simp only [pt, Memref.view_whole, View.set_whole]

theorem scr_in (hP : Passes m Inv Rl) (c : Dev nD) : (Pipeline.ΦA spec0 c : sProp 𝕄) ⊢ scr Inv c 0 := by
  rw [PhiA_eq]; unfold scr
  iintro ⟨⟨⟨%f7, H7⟩, ⟨%f8, H8⟩, ⟨%f9, H9⟩, ⟨%f10, H10⟩, ⟨%f11, H11⟩⟩, Hg⟩
  isplitr [Hg]
  · iexists f7, f8, f9, f10, f11
    isplitr; · ipureintro; exact hP.start c f7 f8 f9 f10 f11
    isplitl [H7]; · iexact H7
    isplitl [H8]; · iexact H8
    isplitl [H9]; · iexact H9
    isplitl [H10]; · iexact H10
    iexact H11
  iexact Hg

theorem scr_out (c : Dev nD) (n : ℕ) : scr Inv c n ⊢ (Pipeline.ΦA spec0 c : sProp 𝕄) := by
  rw [PhiA_eq]; unfold scr
  iintro ⟨⟨%f7, %f8, %f9, %f10, %f11, -, H7, H8, H9, H10, H11⟩, Hg⟩
  isplitr [Hg]
  · isplitl [H7]; · iexists f7; iexact H7
    isplitl [H8]; · iexists f8; iexact H8
    isplitl [H9]; · iexists f9; iexact H9
    isplitl [H10]; · iexists f10; iexact H10
    iexists f11; iexact H11
  iexact Hg

/-- The proof data read relationally. -/
def rdats (c : Dev nD) : Pipeline.RDat τ (Elt F) Unit ℕ (UR sig nD τ) ℕ cfg0 c := (dats m Inv 0 c).toRRel marks (rel Rl c)

/-- Every run of @main ends with the windows' arrays as the proof data say, the other arrays as the launch found them,
    and every counter at zero. -/
theorem run_main (hP : Passes m Inv Rl) :
    θ_run defs (onTc (τ := τ) (main (F := F))) (s₀ m ρ)
      (fun r => Pipeline.RDat.FramePost (cfgs 0) (rdats m Inv Rl) (V m) r ∧ r.2.sem = fun _ => 0) :=
  Pipeline.RDat.θ_run_frame_track (Q' := fun r => Pipeline.RDat.FramePost (cfgs 0) (rdats m Inv Rl) (V m) r ∧ r.2.sem = fun _ => 0) cfgs (0 : Fin 1) launch0 defs₀ Variants.none (rdats m Inv Rl) m ρ main
    (hbody := fun c => (body_obligation m Inv Rl hP c).toRRel) (hshare := fun c => (dats m Inv 0 c).share_full fun _ => rfl)
    (howed := fun _ _ => rfl) (V := V m) (hmain := hmain m Variants.none) (hA := fun c w => A_eq m Inv c w)
    (hin := fun c => scr_in m Inv Rl hP c) (hout := fun c => scr_out Inv c _) (hQ' := fun _ h => h)

variable {m}

/-- The arguments end as they were. -/
theorem args_kept {r : PUnit × MemSt nD τ sig (Elt F)}
    (h : Pipeline.RDat.FramePost (cfgs 0) (rdats m Inv Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((cast (congrFun ((rdats m Inv Rl c).ArrAt_in 1 rfl _) _) ((h c).1 1)).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The statements that say nothing pass through every point. -/
theorem passes_true : Passes m (fun _ _ _ _ _ _ _ => True) (fun _ _ _ => True) where
  start := fun _ _ _ _ _ _ => trivial
  first := by intros; exact ⟨trivial, trivial⟩
  even := by intros; exact ⟨trivial, trivial⟩
  odd := by intros; exact ⟨trivial, trivial⟩

/-- Every run ends with the arguments as they were and every counter at zero. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_kept _ _ h.1 c, h.2⟩) (run_main m ρ _ _ passes_true)

end Cert.Proof.Kernel

end
-- ==== Proof.KernelIdeal.Buffers.lean ====
/-
  The kernel's buffers on a core, as the runs of its body name them.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The first grid point. -/
def i0 : grid0.Coords := grid0.coords ⟨0, by decide⟩
/-- At the first point the block scales are read at block 0, group 0. -/
instance : ClosedOff (k0_off17 i0 0#32) := ⟨![0, 0, 0], by decide +kernel⟩
/-- At the first point the block scales are read at block 1, group 0. -/
instance : ClosedOff (k0_off17 i0 1#32) := ⟨![1, 0, 0], by decide +kernel⟩
/-- At the first point the block scales are read at block 2, group 0. -/
instance : ClosedOff (k0_off17 i0 2#32) := ⟨![2, 0, 0], by decide +kernel⟩
/-- At the first point the block scales are read at block 3, group 0. -/
instance : ClosedOff (k0_off17 i0 3#32) := ⟨![3, 0, 0], by decide +kernel⟩
/-- At the first point the block scales are read at block 4, group 0. -/
instance : ClosedOff (k0_off17 i0 4#32) := ⟨![4, 0, 0], by decide +kernel⟩
/-- At the first point the block scales are read at block 5, group 0. -/
instance : ClosedOff (k0_off17 i0 5#32) := ⟨![5, 0, 0], by decide +kernel⟩
/-- At the first point the block scales are read at block 6, group 0. -/
instance : ClosedOff (k0_off17 i0 6#32) := ⟨![6, 0, 0], by decide +kernel⟩
/-- At the first point the block scales are read at block 7, group 0. -/
instance : ClosedOff (k0_off17 i0 7#32) := ⟨![7, 0, 0], by decide +kernel⟩
/-- At the first point the columns of the input are read from column 12288. -/
instance : ClosedOff (k0_off18 i0) := ⟨![0, 12288], by decide +kernel⟩

end Cert.Proof.KernelIdeal

end
-- ==== Proof.KernelIdeal.First.lean ====
/-
  One run of the kernel body at the FIRST grid point: the lanes of the input are split by parity, the block scales are
  spread over the lanes, and the first tile is decoded into the first weight buffer; the product taken here reads
  buffers nothing has filled, and the next point overwrites it. What the buffers hold afterwards is found by the run.
-/
module

public import proofs.«01_k».proof.Proof.KernelIdeal.Buffers

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at the first point, with what it leaves in the scratch buffers. -/
noncomputable def firstRun (c : Dev nD)
    (hc1 : k0_cond1 i0 = 1#1) (hc2 : k0_cond2 i0 = 1#1) (hc3 : ¬ k0_cond3 i0 = 1#1) (hc4 : ¬ k0_cond4 i0 = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) :
    { W : Bf (F := F) c M7 × Bf (F := F) c M8 × Bf (F := F) c M9 × Bf (F := F) c M11 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 f6 ∗ pt c M7 W.1 ∗ pt c M8 W.2.1 ∗ pt c M9 W.2.2.1 ∗ pt c M10 f10 ∗ pt c M11 W.2.2.2) -∗ Q ⟨⟩))
        ⊢ wp frame (wpE (defs₀ (F := F)) Variants.none c none) E
            (cc0_main i0 M1 h1 M2 h2 M3 h3 M4 h4 M5 h5 M6 h6 M7 h7 M8 h8 M9 h9 M10 h10 M11 h11) Q } := by
  refine ⟨⟨?_, ?_, ?_, ?_⟩, fun E Q => ?run⟩
  case run =>
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.KernelIdeal

end
-- ==== Proof.KernelIdeal.Even.lean ====
/-
  One run of the kernel body at an EVEN grid point after the first: the tile of the point is decoded into the first
  weight buffer, the product with the tile decoded at the point before is added into the accumulator, and the result
  block is stored when that tile was the last of its column. What the buffers hold afterwards is found by the run.
-/
module

public import proofs.«01_k».proof.Proof.KernelIdeal.Buffers

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at an even point after the first, with what it leaves in the buffers it writes. -/
noncomputable def evenRun (c : Dev nD) (i : grid0.Coords)
    (hc1 : ¬ k0_cond1 i = 1#1) (hc2 : k0_cond2 i = 1#1) (hc3 : ¬ k0_cond3 i = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) :
    { W : Bf (F := F) c M6 × Bf (F := F) c M8 × Bf (F := F) c M9 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 W.1 ∗ pt c M7 f7 ∗ pt c M8 W.2.1 ∗ pt c M9 W.2.2 ∗ pt c M10 f10 ∗ pt c M11 f11) -∗ Q ⟨⟩))
        ⊢ wp frame (wpE (defs₀ (F := F)) Variants.none c none) E
            (cc0_main i M1 h1 M2 h2 M3 h3 M4 h4 M5 h5 M6 h6 M7 h7 M8 h8 M9 h9 M10 h10 M11 h11) Q } := by
  refine ⟨⟨?_, ?_, ?_⟩, fun E Q => ?run⟩
  case run =>
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.KernelIdeal

end
-- ==== Proof.KernelIdeal.Odd.lean ====
/-
  One run of the kernel body at an ODD grid point: the tile of the point is decoded into the second weight buffer, the
  product with the tile decoded at the point before is added into the accumulator, and the result block is stored when
  that tile was the last of its column. What the buffers hold afterwards is found by the run.
-/
module

public import proofs.«01_k».proof.Proof.KernelIdeal.Buffers

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at an odd point, with what it leaves in the buffers it writes. -/
noncomputable def oddRun (c : Dev nD) (i : grid0.Coords)
    (hc1 : ¬ k0_cond1 i = 1#1) (hc2 : ¬ k0_cond2 i = 1#1) (hc3 : k0_cond3 i = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) :
    { W : Bf (F := F) c M6 × Bf (F := F) c M8 × Bf (F := F) c M10 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 W.1 ∗ pt c M7 f7 ∗ pt c M8 W.2.1 ∗ pt c M9 f9 ∗ pt c M10 W.2.2 ∗ pt c M11 f11) -∗ Q ⟨⟩))
        ⊢ wp frame (wpE (defs₀ (F := F)) Variants.none c none) E
            (cc0_main i M1 h1 M2 h2 M3 h3 M4 h4 M5 h5 M6 h6 M7 h7 M8 h8 M9 h9 M10 h10 M11 h11) Q } := by
  refine ⟨⟨?_, ?_, ?_⟩, fun E Q => ?run⟩
  case run =>
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.KernelIdeal

end
-- ==== Proof.KernelIdeal.Launch.lean ====
/-
  The launch: the body's runs are the pipeline's body obligation, for any statement about the scratch buffers and the
  result block that the runs carry from point to point; so every run of @main ends, with the arguments unchanged, every
  counter at zero, and each result block flushed at a point as the statement says.
-/
module

public import proofs.«01_k».proof.Proof.KernelIdeal.First
public import proofs.«01_k».proof.Proof.KernelIdeal.Even
public import proofs.«01_k».proof.Proof.KernelIdeal.Odd
public import Idealize.ShloMosaic.Lib.Pipeline.Frame
public import Idealize.ShloMosaic.Lib.Pipeline.DatRel

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-! ## The points of the grid -/

/-- The first point fills the scratch buffers and decodes into the first weight buffer. -/
theorem cond_i0 : k0_cond1 i0 = 1#1 ∧ k0_cond2 i0 = 1#1 ∧ (¬ k0_cond3 i0 = 1#1) ∧ ¬ k0_cond4 i0 = 1#1 := by decide +kernel
/-- A later point fills nothing; an even one decodes into the first weight buffer, an odd one into the second. -/
theorem cond_pos : ∀ t : Fin cfg0.N, t.val ≠ 0 → (¬ k0_cond1 (grid0.coords t) = 1#1)
    ∧ (t.val % 2 = 0 → k0_cond2 (grid0.coords t) = 1#1 ∧ ¬ k0_cond3 (grid0.coords t) = 1#1)
    ∧ (t.val % 2 = 1 → (¬ k0_cond2 (grid0.coords t) = 1#1) ∧ k0_cond3 (grid0.coords t) = 1#1) := by decide +kernel
theorem c1_pos (t : Fin cfg0.N) (h0 : t.val ≠ 0) : ¬ k0_cond1 (grid0.coords t) = 1#1 := (cond_pos t h0).1
theorem c2_even (t : Fin cfg0.N) (h0 : t.val ≠ 0) (h : t.val % 2 = 0) : k0_cond2 (grid0.coords t) = 1#1 := ((cond_pos t h0).2.1 h).1
theorem c3_even (t : Fin cfg0.N) (h0 : t.val ≠ 0) (h : t.val % 2 = 0) : ¬ k0_cond3 (grid0.coords t) = 1#1 := ((cond_pos t h0).2.1 h).2
theorem c2_odd (t : Fin cfg0.N) (h0 : t.val ≠ 0) (h : t.val % 2 = 1) : ¬ k0_cond2 (grid0.coords t) = 1#1 := ((cond_pos t h0).2.2 h).1
theorem c3_odd (t : Fin cfg0.N) (h0 : t.val ≠ 0) (h : t.val % 2 = 1) : k0_cond3 (grid0.coords t) = 1#1 := ((cond_pos t h0).2.2 h).2

/-! ## What the windows hold, and what a proof says of the scratch buffers and the result -/

/-- What window 0, the input, holds at point `t`. -/
abbrev blk1 (c : Dev nD) (t : Fin cfg0.N) : S256x14336.Idx → Elt F .bf16 := iblk m c 0 t
/-- What window 1, the index tile, holds at point `t`. -/
abbrev blk2 (c : Dev nD) (t : Fin cfg0.N) : S1024x512.Idx → Elt F .i8 := iblk m c 1 t
/-- What window 2, the tables of the block row, holds at point `t`. -/
abbrev blk3 (c : Dev nD) (t : Fin cfg0.N) : S8x2x8x256.Idx → Elt F .i8 := iblk m c 2 t
/-- What window 3, the block scales, holds at point `t`. -/
abbrev blk4 (c : Dev nD) (t : Fin cfg0.N) : S8x56.Idx → Elt F .bf16 := iblk m c 3 t
/-- What window 4, the column scales, holds at point `t`. -/
abbrev blk5 (c : Dev nD) (t : Fin cfg0.N) : S1x512.Idx → Elt F .f32 := iblk m c 4 t

/-- A statement about the five scratch buffers before each point. -/
abbrev InvTy : Type := (c : Dev nD) → ℕ → Bf (F := F) c (Memref.whole cc0_scratch0) → Bf (F := F) c (Memref.whole cc0_scratch1) → Bf (F := F) c (Memref.whole cc0_scratch2) → Bf (F := F) c (Memref.whole cc0_scratch3) → Bf (F := F) c (Memref.whole cc0_scratch4) → Prop
/-- A statement about the result block each point leaves. -/
abbrev RlTy : Type := (c : Dev nD) → Fin cfg0.N → (S256x512.Idx → Elt F .bf16) → Prop

/-- The statements pass through every point: they hold after the first point whatever the buffers held, and a later
    point takes them on. -/
structure Passes (Inv : InvTy (F := F)) (Rl : RlTy (F := F)) : Prop where
  start : ∀ c f7 f8 f9 f10 f11, Inv c 0 f7 f8 f9 f10 f11
  first : ∀ (c : Dev nD) (t : Fin cfg0.N) (ht : t.val = 0) (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c (Memref.whole cc0_scratch0)) (f8 : Bf (F := F) c (Memref.whole cc0_scratch1)) (f9 : Bf (F := F) c (Memref.whole cc0_scratch2)) (f10 : Bf (F := F) c (Memref.whole cc0_scratch3)) (f11 : Bf (F := F) c (Memref.whole cc0_scratch4)),
    M1.view.read (Elt F) f1 = blk1 m c t → M2.view.read (Elt F) f2 = blk2 m c t → M3.view.read (Elt F) f3 = blk3 m c t → M4.view.read (Elt F) f4 = blk4 m c t → M5.view.read (Elt F) f5 = blk5 m c t →
    Inv c (t.val + 1) (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2.1 f10 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2.2 ∧ Rl c t (M6.view.read (Elt F) f6)
  even : ∀ (c : Dev nD) (t : Fin cfg0.N) (h0 : t.val ≠ 0) (ht : t.val % 2 = 0) (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c (Memref.whole cc0_scratch0)) (f8 : Bf (F := F) c (Memref.whole cc0_scratch1)) (f9 : Bf (F := F) c (Memref.whole cc0_scratch2)) (f10 : Bf (F := F) c (Memref.whole cc0_scratch3)) (f11 : Bf (F := F) c (Memref.whole cc0_scratch4)),
    M1.view.read (Elt F) f1 = blk1 m c t → M2.view.read (Elt F) f2 = blk2 m c t → M3.view.read (Elt F) f3 = blk3 m c t → M4.view.read (Elt F) f4 = blk4 m c t → M5.view.read (Elt F) f5 = blk5 m c t → Inv c t.val f7 f8 f9 f10 f11 →
    Inv c (t.val + 1) f7 (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 f10 f11 ∧ Rl c t (M6.view.read (Elt F) (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1)
  odd : ∀ (c : Dev nD) (t : Fin cfg0.N) (h0 : t.val ≠ 0) (ht : t.val % 2 = 1) (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole)
    (f1 : Bf (F := F) c M1) (f2 : Bf (F := F) c M2) (f3 : Bf (F := F) c M3) (f4 : Bf (F := F) c M4) (f5 : Bf (F := F) c M5) (f6 : Bf (F := F) c M6)
    (f7 : Bf (F := F) c (Memref.whole cc0_scratch0)) (f8 : Bf (F := F) c (Memref.whole cc0_scratch1)) (f9 : Bf (F := F) c (Memref.whole cc0_scratch2)) (f10 : Bf (F := F) c (Memref.whole cc0_scratch3)) (f11 : Bf (F := F) c (Memref.whole cc0_scratch4)),
    M1.view.read (Elt F) f1 = blk1 m c t → M2.view.read (Elt F) f2 = blk2 m c t → M3.view.read (Elt F) f3 = blk3 m c t → M4.view.read (Elt F) f4 = blk4 m c t → M5.view.read (Elt F) f5 = blk5 m c t → Inv c t.val f7 f8 f9 f10 f11 →
    Inv c (t.val + 1) f7 (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 f9 (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 f11 ∧ Rl c t (M6.view.read (Elt F) (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1)

variable (Inv : InvTy (F := F)) (Rl : RlTy (F := F))

/-! ## The proof data -/

/-- The one window a run writes, the result, is held to `Rl`. -/
def marks : Fin cfg0.W → Bool := fun w => w == 5

/-- `Rl`, of the result's window. -/
def rel (c : Dev nD) : (w : Fin cfg0.W) → Fin cfg0.N → ((cfg0.win w).block.Idx → Elt F (cfg0.win w).elt) → Prop
  | 5, t, X => Rl c t X
  | _, _, _ => True

/-- The scratch buffers before point `n`: whole, at contents `Inv` holds of; and the generator's register. -/
def scr (c : Dev nD) (n : ℕ) : sProp 𝕄 :=
  iprop((∃ f7 f8 f9 f10 f11, ⌜Inv c n f7 f8 f9 f10 f11⌝ ∗ pt c (Memref.whole cc0_scratch0) f7 ∗ pt c (Memref.whole cc0_scratch1) f8 ∗ pt c (Memref.whole cc0_scratch2) f9 ∗ pt c (Memref.whole cc0_scratch3) f10 ∗ pt c (Memref.whole cc0_scratch4) f11) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => Pipeline.Dat.unnamed (cfg := cfg0) 5 t
    | ⟨_ + 6, h⟩, _ => absurd h (Nat.not_lt.2 (Nat.le_add_left _ _))
  Φ t := scr Inv c t.val
  q _ := fullShare
  owed _ := 0

theorem A_eq (c : Dev nD) (w : Fin cfg0.W) : (dats m Inv 0 c).A w = V m c (Pipeline.arrRef spec0 w) := by dsimp only [dats]

theorem before_0 (c : Dev nD) (t : Fin cfg0.N) (d) : (dats m Inv 0 c).before 0 t d = iblk m c 0 t :=
  before0_0_of m (dats m Inv 0 c) (A_eq m Inv c 0) (fun _ => rfl) t d
theorem before_1 (c : Dev nD) (t : Fin cfg0.N) (d) : (dats m Inv 0 c).before 1 t d = iblk m c 1 t :=
  before0_1_of m (dats m Inv 0 c) (A_eq m Inv c 1) (fun _ => rfl) t d
theorem before_2 (c : Dev nD) (t : Fin cfg0.N) (d) : (dats m Inv 0 c).before 2 t d = iblk m c 2 t :=
  before0_2_of m (dats m Inv 0 c) (A_eq m Inv c 2) (fun _ => rfl) t d
theorem before_3 (c : Dev nD) (t : Fin cfg0.N) (d) : (dats m Inv 0 c).before 3 t d = iblk m c 3 t :=
  before0_3_of m (dats m Inv 0 c) (A_eq m Inv c 3) (fun _ => rfl) t d
theorem before_4 (c : Dev nD) (t : Fin cfg0.N) (d) : (dats m Inv 0 c).before 4 t d = iblk m c 4 t :=
  before0_4_of m (dats m Inv 0 c) (A_eq m Inv c 4) (fun _ => rfl) t d

/-- A whole memref owned at `X`: its buffer held at contents that read `X`. -/
theorem owns_pt (c : Dev nD) {sp : Space} {S : Shape} {e : EltTy} (M : Memref sig .tc sp S e) (X : S.Idx → Elt F e) :
    (owns (c : Thread nD τ) M fullShare X : sProp 𝕄) = iprop(∃ f, ⌜M.view.read (Elt F) f = X⌝ ∗ pt c M f) := rfl

/-- What the body is called with at point `t`, and what it returns. -/
def bodyPre (c : Dev nD) (t : Fin cfg0.N) (M1 : Memref sig .tc .vmem S256x14336 .bf16) (M2 : Memref sig .tc .vmem S1024x512 .i8) (M3 : Memref sig .tc .vmem S8x2x8x256 .i8) (M4 : Memref sig .tc .vmem S8x56 .bf16) (M5 : Memref sig .tc .vmem S1x512 .f32) (M6 : Memref sig .tc .vmem S256x512 .bf16) : sProp 𝕄 :=
  iprop(scr Inv c t.val ∗ (dats m Inv 0 c).owesAt () t.castSucc
    ∗ owns (c : Thread nD τ) M1 fullShare (blk1 m c t) ∗ owns (c : Thread nD τ) M2 fullShare (blk2 m c t) ∗ owns (c : Thread nD τ) M3 fullShare (blk3 m c t) ∗ owns (c : Thread nD τ) M4 fullShare (blk4 m c t) ∗ owns (c : Thread nD τ) M5 fullShare (blk5 m c t)
    ∗ ∃ X, owns (c : Thread nD τ) M6 fullShare X)
def bodyPost (c : Dev nD) (t : Fin cfg0.N) (M1 : Memref sig .tc .vmem S256x14336 .bf16) (M2 : Memref sig .tc .vmem S1024x512 .i8) (M3 : Memref sig .tc .vmem S8x2x8x256 .i8) (M4 : Memref sig .tc .vmem S8x56 .bf16) (M5 : Memref sig .tc .vmem S1x512 .f32) (M6 : Memref sig .tc .vmem S256x512 .bf16) : sProp 𝕄 :=
  iprop(scr Inv c (t.val + 1) ∗ (dats m Inv 0 c).owesAt () t.castSucc
    ∗ owns (c : Thread nD τ) M1 fullShare (blk1 m c t) ∗ owns (c : Thread nD τ) M2 fullShare (blk2 m c t) ∗ owns (c : Thread nD τ) M3 fullShare (blk3 m c t) ∗ owns (c : Thread nD τ) M4 fullShare (blk4 m c t) ∗ owns (c : Thread nD τ) M5 fullShare (blk5 m c t)
    ∗ ∃ X, ⌜Rl c t X⌝ ∗ owns (c : Thread nD τ) M6 fullShare X)

/-- The body at the first point. -/
theorem point_first (hP : Passes m Inv Rl) (c : Dev nD) (t : Fin cfg0.N) (ht : t.val = 0)
    (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole) :
    bodyPre m Inv c t M1 M2 M3 M4 M5 M6 ⊢ wp frame (wpE (defs₀ (F := F)) Variants.none c none) Set.univ
      (cc0_main (grid0.coords t) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => bodyPost m Inv Rl c t M1 M2 M3 M4 M5 M6) := by
  unfold bodyPre bodyPost scr
  simp only [owns_pt]
  iintro ⟨⟨⟨%f7, %f8, %f9, %f10, %f11, %hI, H7, H8, H9, H10, H11⟩, Hg⟩, HO, ⟨%f1, %e1, H1⟩, ⟨%f2, %e2, H2⟩, ⟨%f3, %e3, H3⟩, ⟨%f4, %e4, H4⟩, ⟨%f5, %e5, H5⟩, ⟨%X, %f6, -, H6⟩⟩
  have hN := hP.first c t ht M1 h1 M2 h2 M3 h3 M4 h4 M5 h5 M6 h6 f1 f2 f3 f4 f5 f6 f7 f8 f9 f10 f11 e1 e2 e3 e4 e5
  rw [show grid0.coords t = i0 from congrArg grid0.coords (Fin.ext ht)]
  iapply (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H7 H8 H9 H10 H11 Hg]
  · isplitr [Hg]
    · iexists _, _, _, _, _
      isplitr; · ipureintro; exact hN.1
      isplitl [H7]; · iexact H7
      isplitl [H8]; · iexact H8
      isplitl [H9]; · iexact H9
      isplitl [H10]; · iexact H10
      iexact H11
    iexact Hg
  isplitl [HO]; · iexact HO
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; · ipureintro; exact hN.2
  iexists _; isplitr; swap; · iexact H6
  ipureintro; rfl

/-- The body at an even point after the first. -/
theorem point_even (hP : Passes m Inv Rl) (c : Dev nD) (t : Fin cfg0.N) (h0 : t.val ≠ 0) (ht : t.val % 2 = 0)
    (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole) :
    bodyPre m Inv c t M1 M2 M3 M4 M5 M6 ⊢ wp frame (wpE (defs₀ (F := F)) Variants.none c none) Set.univ
      (cc0_main (grid0.coords t) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => bodyPost m Inv Rl c t M1 M2 M3 M4 M5 M6) := by
  unfold bodyPre bodyPost scr
  simp only [owns_pt]
  iintro ⟨⟨⟨%f7, %f8, %f9, %f10, %f11, %hI, H7, H8, H9, H10, H11⟩, Hg⟩, HO, ⟨%f1, %e1, H1⟩, ⟨%f2, %e2, H2⟩, ⟨%f3, %e3, H3⟩, ⟨%f4, %e4, H4⟩, ⟨%f5, %e5, H5⟩, ⟨%X, %f6, -, H6⟩⟩
  have hN := hP.even c t h0 ht M1 h1 M2 h2 M3 h3 M4 h4 M5 h5 M6 h6 f1 f2 f3 f4 f5 f6 f7 f8 f9 f10 f11 e1 e2 e3 e4 e5 hI
  iapply (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H7 H8 H9 H10 H11 Hg]
  · isplitr [Hg]
    · iexists _, _, _, _, _
      isplitr; · ipureintro; exact hN.1
      isplitl [H7]; · iexact H7
      isplitl [H8]; · iexact H8
      isplitl [H9]; · iexact H9
      isplitl [H10]; · iexact H10
      iexact H11
    iexact Hg
  isplitl [HO]; · iexact HO
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; · ipureintro; exact hN.2
  iexists _; isplitr; swap; · iexact H6
  ipureintro; rfl

/-- The body at an odd point. -/
theorem point_odd (hP : Passes m Inv Rl) (c : Dev nD) (t : Fin cfg0.N) (h0 : t.val ≠ 0) (ht : t.val % 2 = 1)
    (M1 : Memref sig .tc .vmem S256x14336 .bf16) (h1 : M1.IsWhole) (M2 : Memref sig .tc .vmem S1024x512 .i8) (h2 : M2.IsWhole) (M3 : Memref sig .tc .vmem S8x2x8x256 .i8) (h3 : M3.IsWhole) (M4 : Memref sig .tc .vmem S8x56 .bf16) (h4 : M4.IsWhole) (M5 : Memref sig .tc .vmem S1x512 .f32) (h5 : M5.IsWhole) (M6 : Memref sig .tc .vmem S256x512 .bf16) (h6 : M6.IsWhole) :
    bodyPre m Inv c t M1 M2 M3 M4 M5 M6 ⊢ wp frame (wpE (defs₀ (F := F)) Variants.none c none) Set.univ
      (cc0_main (grid0.coords t) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) (fun _ => bodyPost m Inv Rl c t M1 M2 M3 M4 M5 M6) := by
  unfold bodyPre bodyPost scr
  simp only [owns_pt]
  iintro ⟨⟨⟨%f7, %f8, %f9, %f10, %f11, %hI, H7, H8, H9, H10, H11⟩, Hg⟩, HO, ⟨%f1, %e1, H1⟩, ⟨%f2, %e2, H2⟩, ⟨%f3, %e3, H3⟩, ⟨%f4, %e4, H4⟩, ⟨%f5, %e5, H5⟩, ⟨%X, %f6, -, H6⟩⟩
  have hN := hP.odd c t h0 ht M1 h1 M2 h2 M3 h3 M4 h4 M5 h5 M6 h6 f1 f2 f3 f4 f5 f6 f7 f8 f9 f10 f11 e1 e2 e3 e4 e5 hI
  iapply (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, H9, H10, H11⟩
  isplitl [H7 H8 H9 H10 H11 Hg]
  · isplitr [Hg]
    · iexists _, _, _, _, _
      isplitr; · ipureintro; exact hN.1
      isplitl [H7]; · iexact H7
      isplitl [H8]; · iexact H8
      isplitl [H9]; · iexact H9
      isplitl [H10]; · iexact H10
      iexact H11
    iexact Hg
  isplitl [HO]; · iexact HO
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; · ipureintro; exact hN.2
  iexists _; isplitr; swap; · iexact H6
  ipureintro; rfl

/-- The body at any point. -/
theorem sound_body (hP : Passes m Inv Rl) (c : Dev nD) (t : Fin cfg0.N) :
    bodyPre m Inv c t (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) ⊢ wp frame (wpE (defs₀ (F := F)) Variants.none c none) Set.univ (bodyAt0 t)
      (fun _ => bodyPost m Inv Rl c t (win0_0.stage (cfg0.slots t 0)) (win0_1.stage (cfg0.slots t 1)) (win0_2.stage (cfg0.slots t 2)) (win0_3.stage (cfg0.slots t 3)) (win0_4.stage (cfg0.slots t 4)) (win0_5.stage (cfg0.slots t 5))) := by
  by_cases h0 : t.val = 0
  · exact point_first m Inv Rl hP c t h0 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
  · rcases Nat.mod_two_eq_zero_or_one t.val with h | h
    · exact point_even m Inv Rl hP c t h0 h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    · exact point_odd m Inv Rl hP c t h0 h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))

theorem defs₀_row (t : Fin cfg0.N) : defs₀ (F := F) .tc cfg0.body (cfg0.bodyArgs t (cfg0.slots t)) = bodyAt0 t := by
  unfold defs₀; rw [Defs.onTc_tc]

/-- The library's body obligation, the result held to `Rl`. -/
theorem body_obligation (hP : Passes m Inv Rl) (c : Dev nD) :
    Pipeline.BodyObligationRel (dats m Inv 0 c) (defs₀ (F := F)) Variants.none () Set.univ marks (rel Rl c) := fun t => by
  rw [bigSep_W0, bigSep_W0, defs₀_row]
  refine triple_restated (sound_body m Inv Rl hP c t) rfl ?_ fun _ => .rfl
  show iprop(scr Inv c t.val ∗ (dats m Inv 0 c).owesAt () t.castSucc
    ∗ (∃ d, owns (c : Thread nD τ) (win0_0.stage (cfg0.slots t 0)) fullShare ((dats m Inv 0 c).before 0 t d)) ∗ (∃ d, owns (c : Thread nD τ) (win0_1.stage (cfg0.slots t 1)) fullShare ((dats m Inv 0 c).before 1 t d)) ∗ (∃ d, owns (c : Thread nD τ) (win0_2.stage (cfg0.slots t 2)) fullShare ((dats m Inv 0 c).before 2 t d)) ∗ (∃ d, owns (c : Thread nD τ) (win0_3.stage (cfg0.slots t 3)) fullShare ((dats m Inv 0 c).before 3 t d)) ∗ (∃ d, owns (c : Thread nD τ) (win0_4.stage (cfg0.slots t 4)) fullShare ((dats m Inv 0 c).before 4 t d))
    ∗ ∃ X, ⌜_⌝ ∗ owns (c : Thread nD τ) (win0_5.stage (cfg0.slots t 5)) fullShare X) ⊢ _
  unfold bodyPre
  iintro ⟨HΦ, HO, ⟨%d0, H0⟩, ⟨%d1, H1⟩, ⟨%d2, H2⟩, ⟨%d3, H3⟩, ⟨%d4, H4⟩, ⟨%X, -, H5⟩⟩
  isplitl [HΦ]; · iexact HΦ
  isplitl [HO]; · iexact HO
  isplitl [H0]; · rw [show blk1 m c t = (dats m Inv 0 c).before 0 t d0 from (before_0 m Inv c t d0).symm]; iexact H0
  isplitl [H1]; · rw [show blk2 m c t = (dats m Inv 0 c).before 1 t d1 from (before_1 m Inv c t d1).symm]; iexact H1
  isplitl [H2]; · rw [show blk3 m c t = (dats m Inv 0 c).before 2 t d2 from (before_2 m Inv c t d2).symm]; iexact H2
  isplitl [H3]; · rw [show blk4 m c t = (dats m Inv 0 c).before 3 t d3 from (before_3 m Inv c t d3).symm]; iexact H3
  isplitl [H4]; · rw [show blk5 m c t = (dats m Inv 0 c).before 4 t d4 from (before_4 m Inv c t d4).symm]; iexact H4
  iexists X; iexact H5

/-! ## The launch -/

/-- The scratch buffers at any contents, as the launch has them. -/
theorem PhiA_eq (c : Dev nD) : (Pipeline.ΦA spec0 c : sProp 𝕄)
    = iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f)) ∗ ∃ r, prngReg c r) := by
  unfold Pipeline.ΦA
  rw [scopedRest0_eq]
  simp only [pt, Memref.view_whole, View.set_whole]

theorem scr_in (hP : Passes m Inv Rl) (c : Dev nD) : (Pipeline.ΦA spec0 c : sProp 𝕄) ⊢ scr Inv c 0 := by
  rw [PhiA_eq]; unfold scr
  iintro ⟨⟨⟨%f7, H7⟩, ⟨%f8, H8⟩, ⟨%f9, H9⟩, ⟨%f10, H10⟩, ⟨%f11, H11⟩⟩, Hg⟩
  isplitr [Hg]
  · iexists f7, f8, f9, f10, f11
    isplitr; · ipureintro; exact hP.start c f7 f8 f9 f10 f11
    isplitl [H7]; · iexact H7
    isplitl [H8]; · iexact H8
    isplitl [H9]; · iexact H9
    isplitl [H10]; · iexact H10
    iexact H11
  iexact Hg

theorem scr_out (c : Dev nD) (n : ℕ) : scr Inv c n ⊢ (Pipeline.ΦA spec0 c : sProp 𝕄) := by
  rw [PhiA_eq]; unfold scr
  iintro ⟨⟨%f7, %f8, %f9, %f10, %f11, -, H7, H8, H9, H10, H11⟩, Hg⟩
  isplitr [Hg]
  · isplitl [H7]; · iexists f7; iexact H7
    isplitl [H8]; · iexists f8; iexact H8
    isplitl [H9]; · iexists f9; iexact H9
    isplitl [H10]; · iexists f10; iexact H10
    iexists f11; iexact H11
  iexact Hg

/-- The proof data read relationally. -/
def rdats (c : Dev nD) : Pipeline.RDat τ (Elt F) Unit ℕ (UR sig nD τ) ℕ cfg0 c := (dats m Inv 0 c).toRRel marks (rel Rl c)

/-- Every run of @main ends with the windows' arrays as the proof data say, the other arrays as the launch found them,
    and every counter at zero. -/
theorem run_main (hP : Passes m Inv Rl) :
    θ_run defs (onTc (τ := τ) (main (F := F))) (s₀ m ρ)
      (fun r => Pipeline.RDat.FramePost (cfgs 0) (rdats m Inv Rl) (V m) r ∧ r.2.sem = fun _ => 0) :=
  Pipeline.RDat.θ_run_frame_track (Q' := fun r => Pipeline.RDat.FramePost (cfgs 0) (rdats m Inv Rl) (V m) r ∧ r.2.sem = fun _ => 0) cfgs (0 : Fin 1) launch0 defs₀ Variants.none (rdats m Inv Rl) m ρ main
    (hbody := fun c => (body_obligation m Inv Rl hP c).toRRel) (hshare := fun c => (dats m Inv 0 c).share_full fun _ => rfl)
    (howed := fun _ _ => rfl) (V := V m) (hmain := hmain m Variants.none) (hA := fun c w => A_eq m Inv c w)
    (hin := fun c => scr_in m Inv Rl hP c) (hout := fun c => scr_out Inv c _) (hQ' := fun _ h => h)

variable {m}

/-- The arguments end as they were. -/
theorem args_kept {r : PUnit × MemSt nD τ sig (Elt F)}
    (h : Pipeline.RDat.FramePost (cfgs 0) (rdats m Inv Rl) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((cast (congrFun ((rdats m Inv Rl c).ArrAt_in 1 rfl _) _) ((h c).1 1)).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The statements that say nothing pass through every point. -/
theorem passes_true : Passes m (fun _ _ _ _ _ _ _ => True) (fun _ _ _ => True) where
  start := fun _ _ _ _ _ _ => trivial
  first := by intros; exact ⟨trivial, trivial⟩
  even := by intros; exact ⟨trivial, trivial⟩
  odd := by intros; exact ⟨trivial, trivial⟩

/-- Every run ends with the arguments as they were and every counter at zero. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_kept _ _ h.1 c, h.2⟩) (run_main m ρ _ _ passes_true)

end Cert.Proof.KernelIdeal

end
-- ==== Proof.Reference.lean ====
/-
  The reference's run: it ends with its arguments unchanged, every counter at zero (it has none), and its result at the
  composed term of its operations.
-/
module

public import proofs.«01_k».proof.Proof.Gen.ReferenceIdeal.Run
public import Idealize.ShloMosaic.Lib.Quiescent

@[expose] public section

noncomputable section

namespace Cert.Proof.Reference

open Cert.ReferenceIdeal Cert.ReferenceIdeal.Gen
open Idealize.ShloMosaic Idealize.ShloMosaic.TcCoe Idealize.SL.Sem

variable {F : FTy → Type} [FloatOps F]

/-- Every run ends with the arguments as they were and every counter at zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2, sem_eq_zero_of_no_sems (by decide) r.2⟩) (Cert.ReferenceIdeal.Value.run m ρ)

end Cert.Proof.Reference

end
-- ==== Proof.Value.Tile.lean ====
/-
  What one tile of the weight is: 32 rows and 128 columns decoded from one table of two code halves.
-/
module

public import proofs.«01_k».proof.Proof.KernelIdeal.Buffers
public import Idealize.ShloMosaic.Lib.Pointwise
public import Idealize.ShloMosaic.Lib.Pipeline.ValueKit
public import Idealize.ShloMosaic.Lib.Ring

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F]

/-- The decoded tile as the kernel computes it: the codes of the two halves of a table, each spread over 32 rows, picked
    lane by lane by the index bytes, and multiplied by the block's scale. -/
def tilePay (n : BitVec 32) (lo hi : Vec F S1x1x8x128 .i8) (s : Vec F S1x1x128 .f32) (ix : Vec F S32x128 .i8) : FVec F S32x128 .bf16 :=
  shapeCast S32x128 (k0_pay768 (k0_pay698 (k0_pay693 n) lo) (k0_pay698 (k0_pay693 n) hi) (k0_pay700 s) ix) shapeCasts_S32x128_S32x128

/-- One tile entry: the code that the index byte picks out of the table's row, times the scale of the lane. -/
theorem tilePay_apply (n : Fin 8) (lo hi : Vec F S1x1x8x128 .i8) (s : Vec F S1x1x128 .f32) (ix : Vec F S32x128 .i8) (x : S32x128.Idx)
    (T : Fin 256 → BitVec 8) (hlo : ∀ l : Fin 128, lo (ix4 0 0 n l) = T ⟨l.val, by omega⟩)
    (hhi : ∀ l : Fin 128, hi (ix4 0 0 n l) = T ⟨128 + l.val, by omega⟩) :
    tilePay (BitVec.ofNat 32 n.val) lo hi s ix x
      = FloatOps.mulf (FloatOps.sitofp .bf16 (T ⟨(ix x).toNat, (ix x).isLt⟩))
          (FloatOps.truncf .bf16 bitsLt_bf16_f32 (s (ix3 0 0 (x 1)))) := by
  have hn : (BitVec.signExtend 32 (BitVec.setWidth 8 (BitVec.ofNat 32 n.val))).toNat % 32 = n.val := by
    clear hlo hhi; revert n; decide
  have hb : ∀ b : BitVec 8, BitVec.setWidth 8 (BitVec.signExtend 32 b) = b := by decide +kernel
  have hl : ∀ w : BitVec 8, (BitVec.signExtend 32 (IntOp.andi w 127#8)).toNat % 128 = if 128 ≤ w.toNat then w.toNat - 128 else w.toNat := by
    decide +kernel
  have hh : ∀ w : BitVec 8, IntOp.cmpi CmpIPredicate.ne (IntOp.andi w 128#8) 0#8 = if 128 ≤ w.toNat then 1#1 else 0#1 := by decide +kernel
  unfold tilePay k0_pay768 k0_pay698 k0_pay693 k0_pay700 k0_pay767 k0_pay766
  pointwise
  simp only [hn, n.isLt, hb, dif_pos, hlo, hhi, hl, hh]
  have hw := (ix x).isLt
  by_cases h : 128 ≤ (ix x).toNat
  · simp only [h, if_true, Scalar.select]
    refine congrArg (fun z => FloatOps.mulf (FloatOps.sitofp .bf16 (T z))
      (FloatOps.truncf .bf16 bitsLt_bf16_f32 (s (ix3 0 0 (x 1))))) (Fin.ext ?_)
    show 128 + ((ix x).toNat - 128) = (ix x).toNat
    omega
  · simp only [h, if_false, Scalar.select]
    rfl

/-- The tile of weights as one function of the place in the 2048 × 512 buffer: row `r` takes block `r / 256`, half
    `r / 64 % 2` of each pair of entries, and the index row `r / 128 * 64 + r % 64`. -/
def wTile (n : Fin 8) (X2 : S1024x512.Idx → BitVec 8) (X3 : S8x2x8x256.Idx → BitVec 8) (s : Fin 8 → Vec F S1x1x128 .f32) :
    S2048x512.Idx → F .bf16 := fun y =>
  FloatOps.mulf (FloatOps.sitofp .bf16 (X3 (ix4 ⟨(y 0).val / 256, by have : (y 0).val < 2048 := (y 0).isLt; omega⟩
      ⟨(y 0).val / 64 % 2, by omega⟩ n
      ⟨(X2 (ix2 ⟨(y 0).val / 128 * 64 + (y 0).val % 64, by have : (y 0).val < 2048 := (y 0).isLt; omega⟩ (y 1))).toNat, BitVec.isLt _⟩)))
    (FloatOps.truncf .bf16 bitsLt_bf16_f32 (s ⟨(y 0).val / 256, by have : (y 0).val < 2048 := (y 0).isLt; omega⟩
      (ix3 0 0 ⟨(y 1).val % 128, by omega⟩)))

/-- A store's piece agrees with one function of the whole buffer. -/
def Agrees {S : Shape} {e : EltTy} (G : S.Idx → Elt F e) (p : View.Piece (Elt F) S e) : Prop := ∀ x : p.1.shape.Idx, p.2 x = G (p.1.emb x)

/-- One decoded tile's store agrees with `wTile`. -/
theorem tile_piece {c : Dev nD} (n : Fin 8) (v : BitVec 32) (hv : v = BitVec.ofNat 32 n.val)
    (M2 : Memref sig .tc .vmem S1024x512 .i8) (M3 : Memref sig .tc .vmem S8x2x8x256 .i8)
    (f2 : Bf (F := F) c M2) (f3 : Bf (F := F) c M3) (s : Fin 8 → Vec F S1x1x128 .f32) (r k : ℕ)
    (hr : r < 2048) (hr32 : r % 32 = 0) (hk : k % 128 = 0)
    (inb : ∀ a, (![r, k] : Fin 2 → ℕ) a + S32x128.size a ≤ S2048x512.size a)
    (inb2 : ∀ a, (![r / 128 * 64 + r % 64, k] : Fin 2 → ℕ) a + S32x128.size a ≤ S1024x512.size a)
    (inbl : ∀ a, (![r / 256, r / 64 % 2, 0, 0] : Fin 4 → ℕ) a + S1x1x8x128.size a ≤ S8x2x8x256.size a)
    (inbh : ∀ a, (![r / 256, r / 64 % 2, 0, 128] : Fin 4 → ℕ) a + S1x1x8x128.size a ≤ S8x2x8x256.size a) :
    Agrees (F := F) (S := S2048x512) (e := .bf16) (wTile n (M2.view.read (Elt F) f2) (M3.view.read (Elt F) f3) s) ⟨(Rect.unit ![r, k] S32x128.size inb : Rect S2048x512),
      tilePay v (M3.view.readAt (Elt F) (Rect.unit ![r / 256, r / 64 % 2, 0, 0] S1x1x8x128.size inbl : Rect S8x2x8x256).toLoadRect f3)
        (M3.view.readAt (Elt F) (Rect.unit ![r / 256, r / 64 % 2, 0, 128] S1x1x8x128.size inbh : Rect S8x2x8x256).toLoadRect f3)
        (s ⟨r / 256, by omega⟩)
        (M2.view.readAt (Elt F) (Rect.unit ![r / 128 * 64 + r % 64, k] S32x128.size inb2 : Rect S1024x512).toLoadRect f2)⟩ := by
  intro x
  subst hv
  have h0 : (x 0).val < 32 := (x 0).isLt
  have h1 : (x 1).val < 128 := (x 1).isLt
  have e0 : ((Rect.unit ![r, k] S32x128.size inb : Rect S2048x512).emb x 0).val = r + (x 0).val := by
    simp [Rect.unit, Rect.emb]
  have e1 : ((Rect.unit ![r, k] S32x128.size inb : Rect S2048x512).emb x 1).val = k + (x 1).val := by
    simp [Rect.unit, Rect.emb]
  show tilePay _ _ _ _ _ x = _
  rw [tilePay_apply n _ _ _ _ x (fun w => M3.view.read (Elt F) f3 (ix4 ⟨r / 256, by omega⟩ ⟨r / 64 % 2, by omega⟩ n w))]
  · unfold wTile
    have a0 : (r + (x 0).val) / 256 = r / 256 := by omega
    have a1 : (r + (x 0).val) / 64 % 2 = r / 64 % 2 := by omega
    have a2 : (r + (x 0).val) / 128 * 64 + (r + (x 0).val) % 64 = r / 128 * 64 + r % 64 + (x 0).val := by omega
    have a3 : (k + (x 1).val) % 128 = (x 1).val := by omega
    simp only [e0, e1, a0, a1, a2, a3, View.readAt_apply]
    refine congrArg (fun w => FloatOps.mulf (FloatOps.sitofp .bf16 (M3.view.read (Elt F) f3 w)) _) ?_
    refine congrArg (ix4 _ _ n) (Fin.ext (congrArg BitVec.toNat (congrArg (M2.view.read (Elt F) f2) (funext fun a => Fin.ext ?_))))
    match a with
    | ⟨0, _⟩ => simp [Rect.idx_unit_val]
    | ⟨1, _⟩ => simp [Rect.idx_unit_val, e1]
  · intro l
    refine congrArg (M3.view.read (Elt F) f3) (funext fun a => Fin.ext ?_)
    match a with
    | ⟨0, _⟩ => simp [Rect.idx_unit_val]
    | ⟨1, _⟩ => simp [Rect.idx_unit_val]
    | ⟨2, _⟩ => simp [Rect.idx_unit_val]
    | ⟨3, _⟩ => simp [Rect.idx_unit_val]
  · intro l
    refine congrArg (M3.view.read (Elt F) f3) (funext fun a => Fin.ext ?_)
    match a with
    | ⟨0, _⟩ => simp [Rect.idx_unit_val]
    | ⟨1, _⟩ => simp [Rect.idx_unit_val]
    | ⟨2, _⟩ => simp [Rect.idx_unit_val]
    | ⟨3, _⟩ => simp [Rect.idx_unit_val]

end Cert.Proof.KernelIdeal

end
-- ==== Proof.Value.Split.lean ====
/-
  What the first run leaves in the split input: within each 128 lanes the even ones first, then the odd ones.
-/
module

public import proofs.«01_k».proof.Proof.Value.Tile
public import proofs.«01_k».proof.Proof.KernelIdeal.First

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F]

/-- The lane that lane `l` of a split chunk comes from. -/
def lane (l : ℕ) : ℕ := if l < 64 then 2 * l else 2 * (l - 64) + 1

theorem lane_lt {l : ℕ} (h : l < 128) : lane l < 128 := by unfold lane; split <;> omega

/-- The split input as one function of the place in the 256 × 14336 buffer. -/
def xTile (X1 : S256x14336.Idx → F .bf16) : S256x14336.Idx → F .bf16 := fun y =>
  FloatOps.truncf .bf16 bitsLt_bf16_f32 (FloatOps.extf .f32 bitsLt_bf16_f32
    (X1 (ix2 (y 0) ⟨128 * ((y 1).val / 128) + lane ((y 1).val % 128), by
      have : (y 1).val < 14336 := (y 1).isLt
      have := lane_lt (Nat.mod_lt (y 1).val (show 0 < 128 by decide))
      omega⟩)))

theorem lane_word (l : Fin 128) (z : S16x128.Idx) (hz : z 1 = l) : (k0_pay24 z).toNat % 128 = lane l.val := by
  have h : ∀ l : Fin 128, (k0_pay24 (ix2 (0 : Fin 16) l)).toNat % 128 = lane l.val := by
    unfold k0_pay24
    pointwise
    decide +kernel
  rw [← h l, ← hz]
  unfold k0_pay24
  pointwise

/-- One chunk as the kernel splits it. -/
theorem splitPay_apply (X : Vec F S16x128 .bf16) (x : S16x128.Idx) :
    k0_pay6 k0_pay24 X x = FloatOps.truncf .bf16 bitsLt_bf16_f32 (FloatOps.extf .f32 bitsLt_bf16_f32
      (X (ix2 (x 0) ⟨lane (x 1).val, lane_lt (x 1).isLt⟩))) := by
  unfold k0_pay6
  pointwise
  refine congrArg (fun z => FloatOps.truncf .bf16 bitsLt_bf16_f32 (FloatOps.extf .f32 bitsLt_bf16_f32 (X z))) (congrArg (ix2 (x 0)) (Fin.ext ?_))
  exact lane_word (x 1) _ rfl

/-- One chunk's store agrees with `xTile`. -/
theorem split_piece {c : Dev nD} (M1 : Memref sig .tc .vmem S256x14336 .bf16) (f1 : Bf (F := F) c M1) (r k : ℕ) (off : Fin 2 → ℕ)
    (ho : off = ![r, 128 * k]) (inb : ∀ a, off a + S16x128.size a ≤ S256x14336.size a)
    (inb1 : ∀ a, off a + S16x128.size a ≤ S256x14336.size a) :
    Agrees (F := F) (S := S256x14336) (e := .bf16) (xTile (M1.view.read (Elt F) f1)) ⟨(Rect.unit off S16x128.size inb : Rect S256x14336),
      k0_pay6 k0_pay24 (M1.view.readAt (Elt F) (Rect.unit off S16x128.size inb1 : Rect S256x14336).toLoadRect f1)⟩ := by
  intro x
  subst ho
  have h1 : (x 1).val < 128 := (x 1).isLt
  have e0 : ((Rect.unit ![r, 128 * k] S16x128.size inb : Rect S256x14336).emb x 0).val = r + (x 0).val := by
    simp [Rect.unit, Rect.emb]
  have e1 : ((Rect.unit ![r, 128 * k] S16x128.size inb : Rect S256x14336).emb x 1).val = 128 * k + (x 1).val := by
    simp [Rect.unit, Rect.emb]
  refine (splitPay_apply _ x).trans ?_
  unfold xTile
  rw [View.readAt_apply]
  have a0 : (128 * k + (x 1).val) / 128 = k := by omega
  have a1 : (128 * k + (x 1).val) % 128 = (x 1).val := by omega
  refine congrArg (fun z => FloatOps.truncf .bf16 bitsLt_bf16_f32 (FloatOps.extf .f32 bitsLt_bf16_f32 (M1.view.read (Elt F) f1 z))) (funext fun a => Fin.ext ?_)
  match a with
  | ⟨0, _⟩ => simp [Rect.idx_unit_val, e0]
  | ⟨1, _⟩ => simp only [e1, a0, a1]; simp [Rect.idx_unit_val]

/-- A place in the columns of chunk `k` is in the first piece, or else has to be in a later one. -/
theorem chunk_step {r k : ℕ} {off : Fin 2 → ℕ} (ho : off = ![r, 128 * k]) {inb : ∀ a, off a + S16x128.size a ≤ S256x14336.size a}
    {v : Vec F S16x128 .bf16} {L : List (View.Piece (Elt F) S256x14336 .bf16)} {y : S256x14336.Idx} (hy : (y 1).val / 128 = k)
    (h : ¬ (r ≤ (y 0).val ∧ (y 0).val < r + 16) → ∃ p ∈ L, y ∈ p.1.set) :
    ∃ p ∈ (⟨(Rect.unit off S16x128.size inb : Rect S256x14336), v⟩ : View.Piece (Elt F) S256x14336 .bf16) :: L, y ∈ p.1.set := by
  by_cases hr : r ≤ (y 0).val ∧ (y 0).val < r + 16
  · refine ⟨_, List.mem_cons_self, ?_⟩
    show y ∈ (Rect.unit off S16x128.size inb : Rect S256x14336).set
    subst ho
    refine Rect.mem_set_unit.2 fun a => ?_
    match a with
    | ⟨0, _⟩ => exact hr
    | ⟨1, _⟩ =>
      show 128 * k ≤ (y 1).val ∧ (y 1).val < 128 * k + 128
      omega
  · obtain ⟨p, hp, hm⟩ := h hr
    exact ⟨p, List.mem_cons_of_mem _ hp, hm⟩

section
variable (c : Dev nD) (hc1 : k0_cond1 i0 = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1)

/-- One trip's stores. -/
abbrev splitTrip (k : Fin k0_t1_loop.trips) : List (View.Piece (Elt F) S256x14336 .bf16) :=
  tripL_k0_t1 (F := F) Variants.none c none i0 M1 h1 M2 h2 M3 h3 M4 h4 M5 h5 M6 h6 M7 h7 M8 h8 M9 h9 M10 h10 M11 h11 hc1 f1 k

/-- The stores of the trips before `n`. -/
abbrev splitPieces (n : ℕ) : List (View.Piece (Elt F) S256x14336 .bf16) :=
  pb_k0_t1 (F := F) Variants.none c none i0 M1 h1 M2 h2 M3 h3 M4 h4 M5 h5 M6 h6 M7 h7 M8 h8 M9 h9 M10 h10 M11 h11 hc1 f1 n

theorem trip_agrees (k : Fin k0_t1_loop.trips) :
    ∀ p ∈ splitTrip c hc1 M1 h1 M2 h2 M3 h3 M4 h4 M5 h5 M6 h6 M7 h7 M8 h8 M9 h9 M10 h10 M11 h11 f1 k,
      Agrees (F := F) (S := S256x14336) (e := .bf16) (xTile (M1.view.read (Elt F) f1)) p := by
  unfold splitTrip tripL_k0_t1 trip_k0_t1
  refine List.forall_mem_cons.2 ⟨split_piece M1 f1 _ k.val _ (k0_off16_eq k) _ _, ?_⟩
  refine List.forall_mem_cons.2 ⟨split_piece M1 f1 _ k.val _ (k0_off15_eq k) _ _, ?_⟩
  refine List.forall_mem_cons.2 ⟨split_piece M1 f1 _ k.val _ (k0_off14_eq k) _ _, ?_⟩
  refine List.forall_mem_cons.2 ⟨split_piece M1 f1 _ k.val _ (k0_off13_eq k) _ _, ?_⟩
  refine List.forall_mem_cons.2 ⟨split_piece M1 f1 _ k.val _ (k0_off12_eq k) _ _, ?_⟩
  refine List.forall_mem_cons.2 ⟨split_piece M1 f1 _ k.val _ (k0_off11_eq k) _ _, ?_⟩
  refine List.forall_mem_cons.2 ⟨split_piece M1 f1 _ k.val _ (k0_off10_eq k) _ _, ?_⟩
  refine List.forall_mem_cons.2 ⟨split_piece M1 f1 _ k.val _ (k0_off9_eq k) _ _, ?_⟩
  refine List.forall_mem_cons.2 ⟨split_piece M1 f1 _ k.val _ (k0_off8_eq k) _ _, ?_⟩
  refine List.forall_mem_cons.2 ⟨split_piece M1 f1 _ k.val _ (k0_off7_eq k) _ _, ?_⟩
  refine List.forall_mem_cons.2 ⟨split_piece M1 f1 _ k.val _ (k0_off6_eq k) _ _, ?_⟩
  refine List.forall_mem_cons.2 ⟨split_piece M1 f1 _ k.val _ (k0_off5_eq k) _ _, ?_⟩
  refine List.forall_mem_cons.2 ⟨split_piece M1 f1 _ k.val _ (k0_off4_eq k) _ _, ?_⟩
  refine List.forall_mem_cons.2 ⟨split_piece M1 f1 _ k.val _ (k0_off3_eq k) _ _, ?_⟩
  refine List.forall_mem_cons.2 ⟨split_piece M1 f1 _ k.val _ (k0_off2_eq k) _ _, ?_⟩
  refine List.forall_mem_cons.2 ⟨split_piece M1 f1 _ k.val _ (k0_off1_eq k) _ _, ?_⟩
  exact List.forall_mem_nil _

theorem trip_covers (k : Fin k0_t1_loop.trips) (y : S256x14336.Idx) (hy : (y 1).val / 128 = k.val) :
    ∃ p ∈ splitTrip c hc1 M1 h1 M2 h2 M3 h3 M4 h4 M5 h5 M6 h6 M7 h7 M8 h8 M9 h9 M10 h10 M11 h11 f1 k, y ∈ p.1.set := by
  have h0 : (y 0).val < 256 := (y 0).isLt
  unfold splitTrip tripL_k0_t1 trip_k0_t1
  refine chunk_step (k0_off16_eq k) hy fun a16 => ?_
  refine chunk_step (k0_off15_eq k) hy fun a15 => ?_
  refine chunk_step (k0_off14_eq k) hy fun a14 => ?_
  refine chunk_step (k0_off13_eq k) hy fun a13 => ?_
  refine chunk_step (k0_off12_eq k) hy fun a12 => ?_
  refine chunk_step (k0_off11_eq k) hy fun a11 => ?_
  refine chunk_step (k0_off10_eq k) hy fun a10 => ?_
  refine chunk_step (k0_off9_eq k) hy fun a9 => ?_
  refine chunk_step (k0_off8_eq k) hy fun a8 => ?_
  refine chunk_step (k0_off7_eq k) hy fun a7 => ?_
  refine chunk_step (k0_off6_eq k) hy fun a6 => ?_
  refine chunk_step (k0_off5_eq k) hy fun a5 => ?_
  refine chunk_step (k0_off4_eq k) hy fun a4 => ?_
  refine chunk_step (k0_off3_eq k) hy fun a3 => ?_
  refine chunk_step (k0_off2_eq k) hy fun a2 => ?_
  refine chunk_step (k0_off1_eq k) hy fun a1 => ?_
  omega

theorem split_agrees : ∀ n : ℕ, n ≤ k0_t1_loop.trips →
    ∀ p ∈ splitPieces c hc1 M1 h1 M2 h2 M3 h3 M4 h4 M5 h5 M6 h6 M7 h7 M8 h8 M9 h9 M10 h10 M11 h11 f1 n,
      Agrees (F := F) (S := S256x14336) (e := .bf16) (xTile (M1.view.read (Elt F) f1)) p
  | 0, _ => List.forall_mem_nil _
  | n + 1, hn => fun p hp => by
    have e := pb_k0_t1_succ (F := F) Variants.none c none i0 M1 h1 M2 h2 M3 h3 M4 h4 M5 h5 M6 h6 M7 h7 M8 h8 M9 h9 M10 h10 M11 h11 hc1 f1 ⟨n, hn⟩
    have hp' := (congrArg (p ∈ ·) e).mp hp
    rcases List.mem_append.1 hp' with h | h
    · exact trip_agrees c hc1 M1 h1 M2 h2 M3 h3 M4 h4 M5 h5 M6 h6 M7 h7 M8 h8 M9 h9 M10 h10 M11 h11 f1 ⟨n, hn⟩ p h
    · exact split_agrees n (Nat.le_of_succ_le hn) p h

theorem split_covers (y : S256x14336.Idx) : ∀ n : ℕ, n ≤ k0_t1_loop.trips → (y 1).val / 128 < n →
    ∃ p ∈ splitPieces c hc1 M1 h1 M2 h2 M3 h3 M4 h4 M5 h5 M6 h6 M7 h7 M8 h8 M9 h9 M10 h10 M11 h11 f1 n, y ∈ p.1.set
  | 0, _, h => absurd h (Nat.not_lt_zero _)
  | n + 1, hn, h => by
    have e := pb_k0_t1_succ (F := F) Variants.none c none i0 M1 h1 M2 h2 M3 h3 M4 h4 M5 h5 M6 h6 M7 h7 M8 h8 M9 h9 M10 h10 M11 h11 hc1 f1 ⟨n, hn⟩
    by_cases hy : (y 1).val / 128 = n
    · obtain ⟨p, hp, hm⟩ := trip_covers c hc1 M1 h1 M2 h2 M3 h3 M4 h4 M5 h5 M6 h6 M7 h7 M8 h8 M9 h9 M10 h10 M11 h11 f1 ⟨n, hn⟩ y hy
      exact ⟨p, (congrArg (p ∈ ·) e).mpr (List.mem_append_left _ hp), hm⟩
    · obtain ⟨p, hp, hm⟩ := split_covers y n (Nat.le_of_succ_le hn) (by omega)
      exact ⟨p, (congrArg (p ∈ ·) e).mpr (List.mem_append_right _ hp), hm⟩

/-- After all trips the split buffer, whatever it held, reads as the split input. -/
theorem split_read (f7 : Bf (F := F) c M7) :
    M7.view.read (Elt F) (M7.view.writes (Elt F) f7
        (splitPieces c hc1 M1 h1 M2 h2 M3 h3 M4 h4 M5 h5 M6 h6 M7 h7 M8 h8 M9 h9 M10 h10 M11 h11 f1 k0_t1_loop.trips))
      = xTile (M1.view.read (Elt F) f1) := by
  have ht : k0_t1_loop.trips = 112 := by decide +kernel
  refine funext fun y => View.read_writes_apply_of_pieces _ _ _ _ (split_agrees c hc1 M1 h1 M2 h2 M3 h3 M4 h4 M5 h5 M6 h6 M7 h7 M8 h8 M9 h9 M10 h10 M11 h11 f1 _ le_rfl) y
    (split_covers c hc1 M1 h1 M2 h2 M3 h3 M4 h4 M5 h5 M6 h6 M7 h7 M8 h8 M9 h9 M10 h10 M11 h11 f1 y _ le_rfl ?_)
  have : (y 1).val < 14336 := (y 1).isLt
  rw [ht]; omega
end

end Cert.Proof.KernelIdeal

end
-- ==== Proof.Value.Spec.lean ====
/-
  The kernel's result as a formula over its arguments: the sum over the rows of the decoded weight, in the split order.
-/
module

public import proofs.«01_k».proof.Proof.Value.Split

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

/-- The decoded weight at row `R` of the split order and column `q`: the code that the index picks, times the block's scale. -/
def wgt (a1 : S7168x4096.Idx → BitVec 8) (a2 : S56x8x256x2.Idx → BitVec 8) (a3 : S56x8.Idx → Ideal .bf16) (R : Fin 14336) (q : Fin 4096) : EReal :=
  (FloatOps.sitofp (F := Ideal) .bf16 (a2 (ix4 ⟨R.val / 256, by omega⟩ ⟨q.val / 512, by omega⟩
      ⟨(a1 (ix2 ⟨R.val / 128 * 64 + R.val % 64, by omega⟩ q)).toNat, BitVec.isLt _⟩ ⟨R.val / 64 % 2, by omega⟩)) : EReal)
    * (a3 (ix2 ⟨R.val / 256, by omega⟩ ⟨q.val / 512, by omega⟩) : EReal)

/-- The input at row `s` and place `R` of the split order. -/
def xs (a0 : S1x256x14336.Idx → Ideal .bf16) (s : Fin 256) (R : Fin 14336) : EReal :=
  a0 (ix3 0 s ⟨128 * (R.val / 128) + lane (R.val % 128), by
    have := lane_lt (Nat.mod_lt R.val (show 0 < 128 by decide))
    omega⟩)

/-- One product of the contraction. -/
def tm (a0 : S1x256x14336.Idx → Ideal .bf16) (a1 : S7168x4096.Idx → BitVec 8) (a2 : S56x8x256x2.Idx → BitVec 8) (a3 : S56x8.Idx → Ideal .bf16)
    (s : Fin 256) (q : Fin 4096) (R : Fin 14336) : EReal := xs a0 s R * wgt a1 a2 a3 R q

/-- The contraction over the first `K` tiles of 2048 rows. -/
def part (a0 : S1x256x14336.Idx → Ideal .bf16) (a1 : S7168x4096.Idx → BitVec 8) (a2 : S56x8x256x2.Idx → BitVec 8) (a3 : S56x8.Idx → Ideal .bf16)
    (s : Fin 256) (q : Fin 4096) (K : ℕ) : EReal :=
  ∑ k ∈ Finset.range K, ∑ r : Fin 2048, tm a0 a1 a2 a3 s q ⟨k % 7 * 2048 + r.val, by omega⟩

/-- One more tile. -/
theorem part_succ (a0 : S1x256x14336.Idx → Ideal .bf16) (a1 : S7168x4096.Idx → BitVec 8) (a2 : S56x8x256x2.Idx → BitVec 8) (a3 : S56x8.Idx → Ideal .bf16)
    (s : Fin 256) (q : Fin 4096) (K : ℕ) :
    part a0 a1 a2 a3 s q (K + 1) = part a0 a1 a2 a3 s q K + ∑ r : Fin 2048, tm a0 a1 a2 a3 s q ⟨K % 7 * 2048 + r.val, by omega⟩ :=
  Finset.sum_range_succ _ _

theorem part_zero (a0 : S1x256x14336.Idx → Ideal .bf16) (a1 : S7168x4096.Idx → BitVec 8) (a2 : S56x8x256x2.Idx → BitVec 8) (a3 : S56x8.Idx → Ideal .bf16)
    (s : Fin 256) (q : Fin 4096) : part a0 a1 a2 a3 s q 0 = 0 := Finset.sum_range_zero _

end Cert.Proof.KernelIdeal

end
-- ==== Proof.Value.Scales.lean ====
/-
  What the first run leaves in the scale buffer: each block's scale, spread over the 128 lanes.
-/
module

public import proofs.«01_k».proof.Proof.Value.Tile
public import proofs.«01_k».proof.Proof.KernelIdeal.First

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F]

/-- The spread scales as one function of the place in the 56 × 8 × 128 buffer: block and group pick the scale, the lane does not matter. -/
def sTile (X4 : S8x56.Idx → F .bf16) : S56x8x128.Idx → F .f32 := fun y =>
  FloatOps.extf .f32 bitsLt_bf16_f32 (X4 (ix2 (y 1) (y 0)))

/-- One block's row as the kernel computes it: lane `b` of the padded scales, in every lane. -/
def scalePay (b : ℕ) (X : Vec F S8x56 .bf16) : FVec F S1x8x128 .f32 :=
  shapeCast S1x8x128 (dynamicGather 1 (k0_pay27 X) (shapeCast S8x128 (shapeCast S8x128x1 (broadcast S8x128 (BitVec.ofNat 32 b)) shapeCasts_S8x128_S8x128x1)
    shapeCasts_S8x128x1_S8x128)) shapeCasts_S8x128_S1x8x128

theorem scalePay_apply (b : Fin 56) (X : Vec F S8x56 .bf16) (x : S1x8x128.Idx) :
    scalePay b.val X x = FloatOps.extf .f32 bitsLt_bf16_f32 (X (ix2 (x 1) b)) := by
  have hb : (BitVec.ofNat 32 b.val).toNat % 128 = b.val := by revert b; decide
  unfold scalePay k0_pay27
  pointwise
  simp only [hb, b.isLt, dif_pos]

/-- One block's store agrees with `sTile`. -/
theorem scale_piece {c : Dev nD} (M4 : Memref sig .tc .vmem S8x56 .bf16) (f4 : Bf (F := F) c M4) (b : ℕ) (hb : b < 56)
    (inb : ∀ a, (![b, 0, 0] : Fin 3 → ℕ) a + S1x8x128.size a ≤ S56x8x128.size a)
    (inb4 : ∀ a, (![0, 0] : Fin 2 → ℕ) a + S8x56.size a ≤ S8x56.size a) :
    Agrees (F := F) (S := S56x8x128) (e := .f32) (sTile (M4.view.read (Elt F) f4)) ⟨(Rect.unit ![b, 0, 0] S1x8x128.size inb : Rect S56x8x128),
      scalePay b (M4.view.readAt (Elt F) (Rect.unit ![0, 0] S8x56.size inb4 : Rect S8x56).toLoadRect f4)⟩ := by
  intro x
  have e0 : ((Rect.unit ![b, 0, 0] S1x8x128.size inb : Rect S56x8x128).emb x 0).val = b := by
    have : (x 0).val < 1 := (x 0).isLt
    simp [Rect.unit, Rect.emb]
  have e1 : ((Rect.unit ![b, 0, 0] S1x8x128.size inb : Rect S56x8x128).emb x 1).val = (x 1).val := by
    simp [Rect.unit, Rect.emb]
  refine (scalePay_apply ⟨b, hb⟩ _ x).trans ?_
  unfold sTile
  rw [View.readAt_apply]
  refine congrArg (fun z => FloatOps.extf .f32 bitsLt_bf16_f32 (M4.view.read (Elt F) f4 z)) (funext fun a => Fin.ext ?_)
  match a with
  | ⟨0, _⟩ => simp [Rect.idx_unit_val, e1]
  | ⟨1, _⟩ => simp [Rect.idx_unit_val, e0]

theorem scale_agrees (c : Dev nD) (M4 : Memref sig .tc .vmem S8x56 .bf16) (f4 : Bf (F := F) c M4) :
    ∀ p ∈ firstRun.sl.H11_56 c M4 f4, Agrees (F := F) (S := S56x8x128) (e := .f32) (sTile (M4.view.read (Elt F) f4)) p := by
  repeat' (first
    | exact List.forall_mem_nil _
    | refine List.forall_mem_cons.2 ⟨scale_piece M4 f4 _ (by decide) _ (by decide), ?_⟩)

theorem scale_covers (c : Dev nD) (M4 : Memref sig .tc .vmem S8x56 .bf16) (f4 : Bf (F := F) c M4) :
    ∀ y : S56x8x128.Idx, ∃ p ∈ firstRun.sl.H11_56 c M4 f4, y ∈ p.1.set :=
  View.cover_of_tiledL _ ![1, 8, 128] (by sl_kernel_rfl)

/-- After the first run the scale buffer, whatever it held, reads as the spread scales. -/
theorem scale_read (c : Dev nD) (M4 : Memref sig .tc .vmem S8x56 .bf16) (M11 : Memref sig .tc .vmem S56x8x128 .f32)
    (f4 : Bf (F := F) c M4) (f11 : Bf (F := F) c M11) :
    M11.view.read (Elt F) (M11.view.writes (Elt F) f11 (firstRun.sl.H11_56 c M4 f4)) = sTile (M4.view.read (Elt F) f4) :=
  funext fun y => View.read_writes_apply_of_pieces _ _ _ _ (scale_agrees c M4 f4) y (scale_covers c M4 f4 y)

/-- A row read out of a buffer that reads as the spread scales. -/
theorem scale_row {c : Dev nD} (M11 : Memref sig .tc .vmem S56x8x128 .f32) (f11 : Bf (F := F) c M11) (X4 : S8x56.Idx → F .bf16)
    (h : M11.view.read (Elt F) f11 = sTile X4) (off : Fin 3 → ℕ) (b : Fin 56) (n : Fin 8) (ho : off = ![b.val, n.val, 0])
    (inb : ∀ a, off a + S1x1x128.size a ≤ S56x8x128.size a) (l : Fin 128) :
    M11.view.readAt (Elt F) (Rect.unit off S1x1x128.size inb : Rect S56x8x128).toLoadRect f11 (ix3 0 0 l)
      = FloatOps.extf .f32 bitsLt_bf16_f32 (X4 (ix2 n b)) := by
  subst ho
  rw [View.readAt_apply, h]
  unfold sTile
  refine congrArg (fun z => FloatOps.extf .f32 bitsLt_bf16_f32 (X4 z)) (funext fun a => Fin.ext ?_)
  match a with
  | ⟨0, _⟩ => simp [Rect.idx_unit_val]
  | ⟨1, _⟩ => simp [Rect.idx_unit_val]

end Cert.Proof.KernelIdeal

end
-- ==== Proof.Value.Words.lean ====
/-
  The kernel's index arithmetic at every grid point, decided once.
-/
module

public import proofs.«01_k».proof.Proof.KernelIdeal.Even
public import proofs.«01_k».proof.Proof.KernelIdeal.Odd

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

/-- Whether the product starts a new column group, as the kernel tests it. -/
def fresh (v32 v33 : BitVec 32) (v34 v35 : BitVec 1) (z : BitVec 32) : BitVec 1 :=
  Scalar.cmpi .eq (Scalar.select (Scalar.andi (Scalar.xori v35 (Scalar.cmpi .slt v32 z)) v34) (Scalar.addi v33 v32) v33) 0#32

theorem fresh_even : ∀ t : Fin cfg0.N, t.val ≠ 0 →
    fresh 7#32 (evenRun.sl.v33 (grid0.coords t)) (evenRun.sl.v34 (grid0.coords t)) (evenRun.sl.v35 (grid0.coords t)) 0#32
      = if (t.val - 1) % 7 = 0 then 1#1 else 0#1 := by decide +kernel

theorem fresh_odd : ∀ t : Fin cfg0.N, t.val ≠ 0 →
    fresh 7#32 (oddRun.sl.v33 (grid0.coords t)) (oddRun.sl.v34 (grid0.coords t)) (oddRun.sl.v35 (grid0.coords t)) 0#32
      = if (t.val - 1) % 7 = 0 then 1#1 else 0#1 := by decide +kernel

theorem rows_even : ∀ t : Fin cfg0.N, t.val ≠ 0 → k0_off18 (grid0.coords t) = ![0, (t.val - 1) % 7 * 2048] := by decide +kernel
theorem rows_odd : ∀ t : Fin cfg0.N, t.val ≠ 0 → k0_off20 (grid0.coords t) = ![0, (t.val - 1) % 7 * 2048] := by decide +kernel

theorem scale_even : ∀ t : Fin cfg0.N, t.val < 56 → ∀ b : Fin 8,
    k0_off17 (grid0.coords t) (BitVec.ofNat 32 b.val) = ![t.val % 7 * 8 + b.val, t.val / 7, 0] := by decide +kernel
theorem scale_odd : ∀ t : Fin cfg0.N, t.val < 56 → ∀ b : Fin 8,
    k0_off19 (grid0.coords t) (BitVec.ofNat 32 b.val) = ![t.val % 7 * 8 + b.val, t.val / 7, 0] := by decide +kernel

theorem group_even : ∀ t : Fin cfg0.N, t.val < 56 → evenRun.sl.v19 (grid0.coords t) = BitVec.ofNat 32 (t.val / 7) := by decide +kernel
theorem group_odd : ∀ t : Fin cfg0.N, t.val < 56 → oddRun.sl.v19 (grid0.coords t) = BitVec.ofNat 32 (t.val / 7) := by decide +kernel

/-- A result block is stored at the points 7, 14, …, 56. -/
theorem stores_iff : ∀ t : Fin cfg0.N, t.val ≠ 0 → (k0_cond4 (grid0.coords t) = 1#1 ↔ t.val % 7 = 0) := by decide +kernel

end Cert.Proof.KernelIdeal

end
-- ==== Proof.Value.Product.lean ====
/-
  What one product leaves in the accumulator, and what the last product of a column group stores into the result block.
-/
module

public import proofs.«01_k».proof.Proof.Value.Tile
public import proofs.«01_k».proof.Proof.Value.Words

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

/-- The accumulator's payload over the extended reals: the block product, added to what was there unless the group is fresh. -/
theorem acc_apply (v32 v33 : BitVec 32) (v34 v35 : BitVec 1) (z : BitVec 32) (X : Vec Ideal S256x2048 .bf16) (W : Vec Ideal S2048x512 .bf16)
    (A : Vec Ideal S256x512 .f32) (s : Fin 256) (q : Fin 512) :
    (k0_pay2 v32 v33 v34 v35 z X W A (ix2 s q) : EReal)
      = if fresh v32 v33 v34 v35 z = 1#1 then ∑ r : Fin 2048, (X (ix2 s r) : EReal) * (W (ix2 r q) : EReal)
        else (A (ix2 s q) : EReal) + ∑ r : Fin 2048, (X (ix2 s r) : EReal) * (W (ix2 r q) : EReal) := by
  have hm : (matmul (F := Ideal) (φ₁ := .bf16) (φ₂ := .bf16) dot_S256x2048_S2048x512_S256x512_1_0_0_1_n_n none X W (constant (F := Ideal) S256x512 .f32 0x00000000#32) (ix2 s q) : EReal)
      = ∑ r : Fin 2048, (X (ix2 s r) : EReal) * (W (ix2 r q) : EReal) := by
    pointwise
  rw [← hm]
  unfold k0_pay2 fresh
  generalize Scalar.cmpi CmpIPredicate.eq (Scalar.select (Scalar.andi (Scalar.xori v35 (Scalar.cmpi .slt v32 z)) v34) (Scalar.addi v33 v32) v33) 0#32 = w
  rw [shapeCast_self]
  by_cases h : w = 1#1
  · rw [if_pos h]
    exact congrFun (if_pos h) _
  · rw [if_neg h]
    exact congrFun (if_neg h) _

/-- One store over a whole 256 × 512 buffer is read back as stored. -/
theorem whole_store {c : Dev nD} {e : EltTy} (M : Memref sig .tc .vmem S256x512 e) (f : Bf (F := Ideal) c M)
    (inb : ∀ a, (![0, 0] : Fin 2 → ℕ) a + S256x512.size a ≤ S256x512.size a) (w : S256x512.Idx → Elt Ideal e) (y : S256x512.Idx) :
    M.view.read (Elt Ideal) (M.view.writes (Elt Ideal) f [⟨(Rect.unit ![0, 0] S256x512.size inb : Rect S256x512), w⟩]) y = w y := by
  have hx : ∀ x : S256x512.Idx, ((Rect.unit ![0, 0] S256x512.size inb : Rect S256x512).emb x : S256x512.Idx) = x := fun x =>
    funext fun a => Fin.ext (by match a with
      | ⟨0, _⟩ => simp [Rect.unit, Rect.emb]
      | ⟨1, _⟩ => simp [Rect.unit, Rect.emb])
  refine View.read_writes_apply_of_pieces _ _ w _ (List.forall_mem_cons.2 ⟨fun x => congrArg w (hx x).symm, List.forall_mem_nil _⟩) y
    ⟨_, List.mem_cons_self, ?_⟩
  show y ∈ (Rect.unit ![0, 0] S256x512.size inb : Rect S256x512).set
  refine Rect.mem_set_unit.2 fun a => ?_
  match a with
  | ⟨0, h⟩ => exact ⟨Nat.zero_le _, by have := (y ⟨0, h⟩).isLt; simpa using this⟩
  | ⟨1, h⟩ => exact ⟨Nat.zero_le _, by have := (y ⟨1, h⟩).isLt; simpa using this⟩

/-- The accumulator after a run, read at an index: the operands read out of their buffers. -/
theorem product_read {c : Dev nD} (M7 : Memref sig .tc .vmem S256x14336 .bf16) (M8 : Memref sig .tc .vmem S256x512 .f32)
    (Mw : Memref sig .tc .vmem S2048x512 .bf16) (f7 : Bf (F := Ideal) c M7) (f8 f : Bf (F := Ideal) c M8) (fw : Bf (F := Ideal) c Mw)
    (v32 v33 : BitVec 32) (v34 v35 : BitVec 1) (z : BitVec 32) (off : Fin 2 → ℕ) (k : Fin 7) (ho : off = ![0, k.val * 2048])
    (inb : ∀ a, (![0, 0] : Fin 2 → ℕ) a + S256x512.size a ≤ S256x512.size a)
    (inb7 : ∀ a, off a + S256x2048.size a ≤ S256x14336.size a)
    (inbw : ∀ a, (![0, 0] : Fin 2 → ℕ) a + S2048x512.size a ≤ S2048x512.size a) (s : Fin 256) (q : Fin 512) :
    (M8.view.read (Elt Ideal) (M8.view.writes (Elt Ideal) f [⟨(Rect.unit ![0, 0] S256x512.size inb : Rect S256x512),
        k0_pay2 v32 v33 v34 v35 z (M7.view.readAt (Elt Ideal) (Rect.unit off S256x2048.size inb7 : Rect S256x14336).toLoadRect f7)
          (Mw.view.readAt (Elt Ideal) (Rect.unit ![0, 0] S2048x512.size inbw : Rect S2048x512).toLoadRect fw)
          (M8.view.readAt (Elt Ideal) (Rect.unit ![0, 0] S256x512.size inb : Rect S256x512).toLoadRect f8)⟩]) (ix2 s q) : EReal)
      = if fresh v32 v33 v34 v35 z = 1#1 then
          ∑ r : Fin 2048, (M7.view.read (Elt Ideal) f7 (ix2 s ⟨k.val * 2048 + r.val, by omega⟩) : EReal) * (Mw.view.read (Elt Ideal) fw (ix2 r q) : EReal)
        else (M8.view.read (Elt Ideal) f8 (ix2 s q) : EReal)
          + ∑ r : Fin 2048, (M7.view.read (Elt Ideal) f7 (ix2 s ⟨k.val * 2048 + r.val, by omega⟩) : EReal) * (Mw.view.read (Elt Ideal) fw (ix2 r q) : EReal) := by
  subst ho
  refine (whole_store M8 f inb _ _).trans ((acc_apply _ _ _ _ _ _ _ _ s q).trans ?_)
  have hx : ∀ r : Fin 2048, (M7.view.readAt (Elt Ideal) (Rect.unit ![0, k.val * 2048] S256x2048.size inb7 : Rect S256x14336).toLoadRect f7 (ix2 s r) : EReal)
      = M7.view.read (Elt Ideal) f7 (ix2 s ⟨k.val * 2048 + r.val, by omega⟩) := fun r => by
    rw [View.readAt_apply]
    refine congrArg (M7.view.read (Elt Ideal) f7) (funext fun a => Fin.ext ?_)
    match a with
    | ⟨0, _⟩ => simp [Rect.idx_unit_val]
    | ⟨1, _⟩ => simp [Rect.idx_unit_val]
  have hw : ∀ r : Fin 2048, (Mw.view.readAt (Elt Ideal) (Rect.unit ![0, 0] S2048x512.size inbw : Rect S2048x512).toLoadRect fw (ix2 r q) : EReal)
      = Mw.view.read (Elt Ideal) fw (ix2 r q) := fun r => by
    rw [View.readAt_apply]
    refine congrArg (Mw.view.read (Elt Ideal) fw) (funext fun a => Fin.ext ?_)
    match a with
    | ⟨0, _⟩ => simp [Rect.idx_unit_val]
    | ⟨1, _⟩ => simp [Rect.idx_unit_val]
  have ha : (M8.view.readAt (Elt Ideal) (Rect.unit ![0, 0] S256x512.size inb : Rect S256x512).toLoadRect f8 (ix2 s q) : EReal)
      = M8.view.read (Elt Ideal) f8 (ix2 s q) := by
    rw [View.readAt_apply]
    refine congrArg (M8.view.read (Elt Ideal) f8) (funext fun a => Fin.ext ?_)
    match a with
    | ⟨0, _⟩ => simp [Rect.idx_unit_val]
    | ⟨1, _⟩ => simp [Rect.idx_unit_val]
  simp only [hx, hw, ha]

/-- The result block as stored: the accumulator, read back, times the column scale. -/
theorem out_read {c : Dev nD} (M8 : Memref sig .tc .vmem S256x512 .f32) (M5 : Memref sig .tc .vmem S1x512 .f32) (M6 : Memref sig .tc .vmem S256x512 .bf16)
    (f6 : Bf (F := Ideal) c M6) (f5 : Bf (F := Ideal) c M5) (L : List (View.Piece (Elt Ideal) S256x512 .f32))
    (inb : ∀ a, (![0, 0] : Fin 2 → ℕ) a + S256x512.size a ≤ S256x512.size a)
    (inb5 : ∀ a, (![0, 0] : Fin 2 → ℕ) a + S1x512.size a ≤ S1x512.size a) (s : Fin 256) (q : Fin 512) (v : EReal)
    (hv : ∀ f : Bf (F := Ideal) c M8, (M8.view.read (Elt Ideal) (M8.view.writes (Elt Ideal) f L) (ix2 s q) : EReal) = v) :
    (M6.view.read (Elt Ideal) (M6.view.writes (Elt Ideal) f6 [⟨(Rect.unit ![0, 0] S256x512.size inb : Rect S256x512),
        k0_pay5 (M8.view.readCov L (Rect.unit ![0, 0] S256x512.size inb : Rect S256x512).toLoadRect)
          (M5.view.readAt (Elt Ideal) (Rect.unit ![0, 0] S1x512.size inb5 : Rect S1x512).toLoadRect f5)⟩]) (ix2 s q) : EReal)
      = v * (M5.view.read (Elt Ideal) f5 (ix2 0 q) : EReal) := by
  refine (whole_store M6 f6 inb _ _).trans ?_
  have h8 : (M8.view.readCov L (Rect.unit ![0, 0] S256x512.size inb : Rect S256x512).toLoadRect (ix2 s q) : EReal) = v := by
    refine Eq.trans ?_ (hv M8.view.junk)
    unfold View.readCov
    rw [View.readAt_apply]
    refine congrArg (M8.view.read (Elt Ideal) _) (funext fun a => Fin.ext ?_)
    match a with
    | ⟨0, _⟩ => simp [Rect.idx_unit_val]
    | ⟨1, _⟩ => simp [Rect.idx_unit_val]
  have h5 : (M5.view.readAt (Elt Ideal) (Rect.unit ![0, 0] S1x512.size inb5 : Rect S1x512).toLoadRect f5 (ix2 0 q) : EReal)
      = M5.view.read (Elt Ideal) f5 (ix2 0 q) := by
    rw [View.readAt_apply]
    refine congrArg (M5.view.read (Elt Ideal) f5) (funext fun a => Fin.ext ?_)
    match a with
    | ⟨0, _⟩ => simp [Rect.idx_unit_val]
    | ⟨1, _⟩ => simp [Rect.idx_unit_val]
  rw [← h8, ← h5]
  unfold k0_pay5
  pointwise

end Cert.Proof.KernelIdeal

end
-- ==== Proof.Value.Blocks.lean ====
/-
  What each window holds at a point, read off the arguments.
-/
module

public import proofs.«01_k».proof.Proof.KernelIdeal.Launch
public import proofs.«01_k».proof.Proof.Value.Tile
public import Idealize.ShloMosaic.Lib.Claim

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F] [∀ e, Nonempty (Elt F e)]
variable (m : (ℓ : Loc nD τ sig) → Buf (Elt F) ℓ)

/-- The block index of every window at every point. -/
theorem index_at : ∀ t : Fin cfg0.N, (cfg0.win 0).index t = ![0, 0]
    ∧ (cfg0.win 1).index t = ![min t.val 55 % 7, min t.val 55 / 7]
    ∧ (cfg0.win 2).index t = ![min t.val 55 % 7, 0, 0, 0]
    ∧ (cfg0.win 3).index t = ![0, 0]
    ∧ (cfg0.win 4).index t = ![0, (t.val - 1) / 7]
    ∧ (cfg0.win 5).index t = ![0, (t.val - 1) / 7] := by decide +kernel

/-! The host's reshapes and transposes before the call. -/

theorem v0_apply (c : Dev nD) (s : Fin 256) (R : Fin 14336) :
    (V m c main_v0 : S256x14336.Idx → Elt F .bf16) (ix2 s R) = m ((c.tc : Thread nD τ).loc main_arg0) (ix3 0 s R) := by
  entry_read
  pointwise

theorem v1_apply (c : Dev nD) (b : Fin 56) (p : Fin 2) (n : Fin 8) (w : Fin 256) :
    (V m c main_v1 : S56x2x8x256.Idx → Elt F .i8) (ix4 b p n w) = m ((c.tc : Thread nD τ).loc main_arg2) (ix4 b n w p) := by
  entry_read
  pointwise

theorem v2_apply (c : Dev nD) (n : Fin 8) (b : Fin 56) :
    (V m c main_v2 : S8x56.Idx → Elt F .bf16) (ix2 n b) = m ((c.tc : Thread nD τ).loc main_arg3) (ix2 b n) := by
  entry_read
  pointwise

theorem v3_apply (c : Dev nD) (q : Fin 4096) :
    (V m c main_v3 : S1x4096.Idx → Elt F .f32) (ix2 0 q) = m ((c.tc : Thread nD τ).loc main_arg4) (ix1 q) := by
  entry_read
  pointwise

/-! The windows' blocks. -/

theorem blk1_apply (c : Dev nD) (t : Fin cfg0.N) (s : Fin 256) (R : Fin 14336) :
    blk1 m c t (ix2 s R) = m ((c.tc : Thread nD τ).loc main_arg0) (ix3 0 s R) := by
  refine Eq.trans ?_ (v0_apply m c s R)
  blk_ext [blk1, iblk, index_at t]

theorem blk2_apply (c : Dev nD) (t : Fin cfg0.N) (ht : t.val < 56) (r : Fin 1024) (q : Fin 512) :
    blk2 m c t (ix2 r q) = m ((c.tc : Thread nD τ).loc main_arg1) (ix2 ⟨t.val % 7 * 1024 + r.val, by omega⟩ ⟨t.val / 7 * 512 + q.val, by omega⟩) := by
  blk_ext [blk2, iblk, V, index_at t]

theorem blk3_apply (c : Dev nD) (t : Fin cfg0.N) (ht : t.val < 56) (b : Fin 8) (p : Fin 2) (n : Fin 8) (w : Fin 256) :
    blk3 m c t (ix4 b p n w) = m ((c.tc : Thread nD τ).loc main_arg2) (ix4 ⟨t.val % 7 * 8 + b.val, by omega⟩ n w p) := by
  refine Eq.trans ?_ (v1_apply m c ⟨t.val % 7 * 8 + b.val, by omega⟩ p n w)
  blk_ext [blk3, iblk, index_at t]

theorem blk4_apply (c : Dev nD) (t : Fin cfg0.N) (n : Fin 8) (b : Fin 56) :
    blk4 m c t (ix2 n b) = m ((c.tc : Thread nD τ).loc main_arg3) (ix2 b n) := by
  refine Eq.trans ?_ (v2_apply m c n b)
  blk_ext [blk4, iblk, index_at t]

theorem blk5_apply (c : Dev nD) (t : Fin cfg0.N) (q : Fin 512) :
    blk5 m c t (ix2 0 q) = m ((c.tc : Thread nD τ).loc main_arg4) (ix1 ⟨(t.val - 1) / 7 * 512 + q.val, by
      have : t.val < 57 := t.isLt
      omega⟩) := by
  refine Eq.trans ?_ (v3_apply m c _)
  blk_ext [blk5, iblk, index_at t]

end Cert.Proof.KernelIdeal

end
-- ==== Proof.Value.Carry.lean ====
/-
  What the scratch buffers carry from point to point, as formulas over the arguments, and what a decoded tile is of them.
-/
module

public import proofs.«01_k».proof.Proof.Value.Spec
public import proofs.«01_k».proof.Proof.Value.Scales
public import proofs.«01_k».proof.Proof.Value.Product
public import proofs.«01_k».proof.Proof.Value.Blocks

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable (m : (ℓ : Loc nD τ sig) → Buf (Elt Ideal) ℓ)

/-! The arguments. -/
abbrev arg0 (c : Dev nD) : S1x256x14336.Idx → Ideal .bf16 := m ((c.tc : Thread nD τ).loc main_arg0)
abbrev arg1 (c : Dev nD) : S7168x4096.Idx → BitVec 8 := m ((c.tc : Thread nD τ).loc main_arg1)
abbrev arg2 (c : Dev nD) : S56x8x256x2.Idx → BitVec 8 := m ((c.tc : Thread nD τ).loc main_arg2)
abbrev arg3 (c : Dev nD) : S56x8.Idx → Ideal .bf16 := m ((c.tc : Thread nD τ).loc main_arg3)
abbrev arg4 (c : Dev nD) : S4096.Idx → Ideal .f32 := m ((c.tc : Thread nD τ).loc main_arg4)

/-- Column `q` of the column group of tile `j`. -/
def qcol (j : ℕ) (q : Fin 512) : Fin 4096 := ⟨j / 7 % 8 * 512 + q.val, by omega⟩

/-- Tile `j` of the decoded weight. -/
def WT (c : Dev nD) (j : ℕ) : S2048x512.Idx → Ideal .bf16 := fun y =>
  wgt (arg1 m c) (arg2 m c) (arg3 m c) ⟨j % 7 * 2048 + (y 0).val, by have : (y 0).val < 2048 := (y 0).isLt; omega⟩ (qcol j (y 1))

/-- The split input. -/
def XS (c : Dev nD) : S256x14336.Idx → Ideal .bf16 := fun y => xs (arg0 m c) (y 0) (y 1)

/-- The scales with the group first. -/
def SC (c : Dev nD) : S8x56.Idx → Ideal .bf16 := fun z => arg3 m c (ix2 (z 1) (z 0))

/-- The contraction of row `s` and column `q` up to and including tile `j`. -/
def AC (c : Dev nD) (j : ℕ) (s : Fin 256) (q : Fin 512) : EReal :=
  part (arg0 m c) (arg1 m c) (arg2 m c) (arg3 m c) s (qcol j q) (j % 7 + 1)

theorem split_eq (c : Dev nD) (t : Fin cfg0.N) : xTile (blk1 m c t) = XS m c :=
  funext fun y => blk1_apply m c t (y 0) _

theorem scales_eq (c : Dev nD) (t : Fin cfg0.N) : blk4 m c t = SC m c := funext fun z => by
  refine Eq.trans (congrArg (blk4 m c t) (funext fun a => ?_)) (blk4_apply m c t (z 0) (z 1))
  match a with
  | ⟨0, _⟩ => rfl
  | ⟨1, _⟩ => rfl

/-- What the kernel decodes at a point is the point's tile of the weight. -/
theorem tile_eq (c : Dev nD) (t : Fin cfg0.N) (ht : t.val < 56) (s : Fin 8 → Vec Ideal S1x1x128 .f32)
    (hs : ∀ (b : Fin 8) (l : Fin 128), s b (ix3 0 0 l)
      = FloatOps.extf .f32 bitsLt_bf16_f32 (SC m c (ix2 ⟨t.val / 7, by omega⟩ ⟨t.val % 7 * 8 + b.val, by omega⟩))) :
    wTile (F := Ideal) ⟨t.val / 7, by omega⟩ (blk2 m c t) (blk3 m c t) s = WT m c t.val := funext fun y => by
  have h0 : (y 0).val < 2048 := (y 0).isLt
  have h1 : (y 1).val < 512 := (y 1).isLt
  unfold wTile WT wgt
  rw [hs]
  have e1 := blk2_apply m c t ht ⟨(y 0).val / 128 * 64 + (y 0).val % 64, by omega⟩ (y 1)
  have a0 : (t.val % 7 * 2048 + (y 0).val) / 256 = t.val % 7 * 8 + (y 0).val / 256 := by omega
  have a1 : (t.val % 7 * 2048 + (y 0).val) / 64 % 2 = (y 0).val / 64 % 2 := by omega
  have a2 : (t.val % 7 * 2048 + (y 0).val) / 128 * 64 + (t.val % 7 * 2048 + (y 0).val) % 64
      = t.val % 7 * 1024 + ((y 0).val / 128 * 64 + (y 0).val % 64) := by omega
  have a3 : (qcol t.val (y 1)).val = t.val / 7 * 512 + (y 1).val := by
    show t.val / 7 % 8 * 512 + (y 1).val = _
    omega
  have a4 : (t.val / 7 * 512 + (y 1).val) / 512 = t.val / 7 := by omega
  have hq : qcol t.val (y 1) = ⟨t.val / 7 * 512 + (y 1).val, by omega⟩ := Fin.ext a3
  simp only [a0, a1, a2, hq, a4]
  refine congrArg₂ (fun u v : EReal => u * v) ?_ rfl
  refine congrArg (fun u => FloatOps.sitofp (F := Ideal) .bf16 u) ?_
  refine (blk3_apply m c t ht _ _ _ _).trans ?_
  refine congrArg (fun w => arg2 m c (ix4 _ _ w _)) (Fin.ext (congrArg BitVec.toNat e1))

/-- The statement carried: before point `n ≥ 1` the split input and the spread scales are in place, the buffer written last
    holds its tile, and from point 2 on the accumulator holds the contraction up to the tile before. -/
def Inv : InvTy (F := Ideal) := fun c n f7 f8 f9 f10 f11 => n ≠ 0 →
  (Memref.whole cc0_scratch0 : Memref sig .tc .vmem S256x14336 .bf16).view.read (Elt Ideal) f7 = XS m c
  ∧ (Memref.whole cc0_scratch4 : Memref sig .tc .vmem S56x8x128 .f32).view.read (Elt Ideal) f11 = sTile (SC m c)
  ∧ (n ≤ 56 → (n - 1) % 2 = 0 → (Memref.whole cc0_scratch2 : Memref sig .tc .vmem S2048x512 .bf16).view.read (Elt Ideal) f9 = WT m c (n - 1))
  ∧ (n ≤ 56 → (n - 1) % 2 = 1 → (Memref.whole cc0_scratch3 : Memref sig .tc .vmem S2048x512 .bf16).view.read (Elt Ideal) f10 = WT m c (n - 1))
  ∧ (n ≠ 1 → ∀ (s : Fin 256) (q : Fin 512),
      ((Memref.whole cc0_scratch1 : Memref sig .tc .vmem S256x512 .f32).view.read (Elt Ideal) f8 (ix2 s q) : EReal) = AC m c (n - 2) s q)

/-- The result block that a storing point leaves: the whole contraction of its column group, times the column scale. -/
def Rl : RlTy (F := Ideal) := fun c t X => t.val ≠ 0 → t.val % 7 = 0 → ∀ (s : Fin 256) (q : Fin 512),
  (X (ix2 s q) : EReal) = AC m c (t.val - 1) s q * (arg4 m c (ix1 (qcol (t.val - 1) q)) : EReal)

/-- One product's step of the contraction. -/
theorem step_eq (c : Dev nD) (j : ℕ) (hj : j < 56) (s : Fin 256) (q : Fin 512) (X : S256x14336.Idx → Ideal .bf16) (W : S2048x512.Idx → Ideal .bf16)
    (A : EReal) (w : BitVec 1) (hX : X = XS m c) (hW : W = WT m c j) (hA : j % 7 ≠ 0 → A = AC m c (j - 1) s q)
    (hw : w = if j % 7 = 0 then 1#1 else 0#1) :
    (if w = 1#1 then ∑ r : Fin 2048, (X (ix2 s ⟨j % 7 * 2048 + r.val, by omega⟩) : EReal) * (W (ix2 r q) : EReal)
      else A + ∑ r : Fin 2048, (X (ix2 s ⟨j % 7 * 2048 + r.val, by omega⟩) : EReal) * (W (ix2 r q) : EReal)) = AC m c j s q := by
  subst hX hW
  have hsum : (∑ r : Fin 2048, (XS m c (ix2 s ⟨j % 7 * 2048 + r.val, by omega⟩) : EReal) * (WT m c j (ix2 r q) : EReal))
      = ∑ r : Fin 2048, tm (arg0 m c) (arg1 m c) (arg2 m c) (arg3 m c) s (qcol j q) ⟨j % 7 % 7 * 2048 + r.val, by omega⟩ := by
    refine Finset.sum_congr rfl fun r _ => ?_
    have e : (⟨j % 7 % 7 * 2048 + r.val, by omega⟩ : Fin 14336) = ⟨j % 7 * 2048 + r.val, by omega⟩ := Fin.ext (by show j % 7 % 7 * 2048 + r.val = j % 7 * 2048 + r.val; omega)
    rw [e]
    rfl
  rw [hsum]
  unfold AC
  rw [part_succ]
  by_cases h : j % 7 = 0
  · rw [hw, if_pos h, if_pos rfl]
    simp only [h, part_zero, zero_add]
  · rw [hw, if_neg h, if_neg (by decide), hA h]
    unfold AC
    have e1 : (j - 1) % 7 + 1 = j % 7 := by omega
    have e2 : qcol (j - 1) q = qcol j q := Fin.ext (by
      show (j - 1) / 7 % 8 * 512 + q.val = j / 7 % 8 * 512 + q.val
      have : (j - 1) / 7 = j / 7 := by omega
      rw [this])
    rw [e1, e2]

end Cert.Proof.KernelIdeal

end
-- ==== Proof.Value.Forms.lean ====
/-
  The stores of each run, named: which buffer is left with which stores.
-/
module

public import proofs.«01_k».proof.Proof.Value.Split
public import proofs.«01_k».proof.Proof.KernelIdeal.Even
public import proofs.«01_k».proof.Proof.KernelIdeal.Odd

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F] [∀ e, Nonempty (Elt F e)]

section
variable (c : Dev nD) (i : grid0.Coords)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11)

/-- What an even point leaves in the result block, if it stores one. -/
theorem even_out_form (hc1 : ¬ k0_cond1 i = 1#1) (hc2 : k0_cond2 i = 1#1) (hc3 : ¬ k0_cond3 i = 1#1) (hc4 : k0_cond4 i = 1#1) :
    (evenRun c i hc1 hc2 hc3 M1 h1 M2 h2 M3 h3 M4 h4 M5 h5 M6 h6 M7 h7 M8 h8 M9 h9 M10 h10 M11 h11 f1 f2 f3 f4 f5 f6 f7 f8 f9 f10 f11).1.1 = M6.view.writes (Elt F) f6 [⟨(Rect.unit ![0, 0] S256x512.size inb_S256x512_S256x512_0_0 : Rect S256x512),
      k0_pay5 (M8.view.readCov (evenRun.sl.H8_1 c i hc2 M7 M8 M10 f7 f8 f10) (Rect.unit ![0, 0] S256x512.size inb_S256x512_S256x512_0_0 : Rect S256x512).toLoadRect)
        (M5.view.readAt (Elt F) (Rect.unit ![0, 0] S1x512.size inb_S1x512_S1x512_0_0 : Rect S1x512).toLoadRect f5)⟩] := dif_pos hc4

/-- What an even point leaves in the accumulator. -/
theorem even_acc_form (hc1 : ¬ k0_cond1 i = 1#1) (hc2 : k0_cond2 i = 1#1) (hc3 : ¬ k0_cond3 i = 1#1) :
    (evenRun c i hc1 hc2 hc3 M1 h1 M2 h2 M3 h3 M4 h4 M5 h5 M6 h6 M7 h7 M8 h8 M9 h9 M10 h10 M11 h11 f1 f2 f3 f4 f5 f6 f7 f8 f9 f10 f11).1.2.1 = M8.view.writes (Elt F) f8 (evenRun.sl.H8_1 c i hc2 M7 M8 M10 f7 f8 f10) := by
  delta evenRun
  dsimp only

/-- What an even point leaves in the weight buffer it decodes into. -/
theorem even_weights_form (hc1 : ¬ k0_cond1 i = 1#1) (hc2 : k0_cond2 i = 1#1) (hc3 : ¬ k0_cond3 i = 1#1) :
    (evenRun c i hc1 hc2 hc3 M1 h1 M2 h2 M3 h3 M4 h4 M5 h5 M6 h6 M7 h7 M8 h8 M9 h9 M10 h10 M11 h11 f1 f2 f3 f4 f5 f6 f7 f8 f9 f10 f11).1.2.2 = M9.view.writes (Elt F) f9 (evenRun.sl.H9_256 c i hc2 M2 M3 M11 f2 f3 f11) := (rfl)

/-- What an odd point leaves in the result block, if it stores one. -/
theorem odd_out_form (hc1 : ¬ k0_cond1 i = 1#1) (hc2 : ¬ k0_cond2 i = 1#1) (hc3 : k0_cond3 i = 1#1) (hc4 : k0_cond4 i = 1#1) :
    (oddRun c i hc1 hc2 hc3 M1 h1 M2 h2 M3 h3 M4 h4 M5 h5 M6 h6 M7 h7 M8 h8 M9 h9 M10 h10 M11 h11 f1 f2 f3 f4 f5 f6 f7 f8 f9 f10 f11).1.1 = M6.view.writes (Elt F) f6 [⟨(Rect.unit ![0, 0] S256x512.size inb_S256x512_S256x512_0_0 : Rect S256x512),
      k0_pay5 (M8.view.readCov (oddRun.sl.H8_1 c i hc3 M7 M8 M9 f7 f8 f9) (Rect.unit ![0, 0] S256x512.size inb_S256x512_S256x512_0_0 : Rect S256x512).toLoadRect)
        (M5.view.readAt (Elt F) (Rect.unit ![0, 0] S1x512.size inb_S1x512_S1x512_0_0 : Rect S1x512).toLoadRect f5)⟩] := dif_pos hc4

/-- What an odd point leaves in the accumulator. -/
theorem odd_acc_form (hc1 : ¬ k0_cond1 i = 1#1) (hc2 : ¬ k0_cond2 i = 1#1) (hc3 : k0_cond3 i = 1#1) :
    (oddRun c i hc1 hc2 hc3 M1 h1 M2 h2 M3 h3 M4 h4 M5 h5 M6 h6 M7 h7 M8 h8 M9 h9 M10 h10 M11 h11 f1 f2 f3 f4 f5 f6 f7 f8 f9 f10 f11).1.2.1 = M8.view.writes (Elt F) f8 (oddRun.sl.H8_1 c i hc3 M7 M8 M9 f7 f8 f9) := by
  delta oddRun
  dsimp only

/-- What an odd point leaves in the weight buffer it decodes into. -/
theorem odd_weights_form (hc1 : ¬ k0_cond1 i = 1#1) (hc2 : ¬ k0_cond2 i = 1#1) (hc3 : k0_cond3 i = 1#1) :
    (oddRun c i hc1 hc2 hc3 M1 h1 M2 h2 M3 h3 M4 h4 M5 h5 M6 h6 M7 h7 M8 h8 M9 h9 M10 h10 M11 h11 f1 f2 f3 f4 f5 f6 f7 f8 f9 f10 f11).1.2.2 = M10.view.writes (Elt F) f10 (oddRun.sl.H10_256 c i hc3 M2 M3 M11 f2 f3 f11) := (rfl)

/-- What the first point leaves in the split input's buffer. -/
theorem first_split_form (hc1 : k0_cond1 i0 = 1#1) (hc2 : k0_cond2 i0 = 1#1) (hc3 : ¬ k0_cond3 i0 = 1#1) (hc4 : ¬ k0_cond4 i0 = 1#1) :
    (firstRun c hc1 hc2 hc3 hc4 M1 h1 M2 h2 M3 h3 M4 h4 M5 h5 M6 h6 M7 h7 M8 h8 M9 h9 M10 h10 M11 h11 f1 f2 f3 f4 f5 f6 f7 f8 f9 f10 f11).1.1 = M7.view.writes (Elt F) f7 (splitPieces c hc1 M1 h1 M2 h2 M3 h3 M4 h4 M5 h5 M6 h6 M7 h7 M8 h8 M9 h9 M10 h10 M11 h11 f1 k0_t1_loop.trips) := (rfl)

/-- What the first point leaves in the scale buffer. -/
theorem first_scales_form (hc1 : k0_cond1 i0 = 1#1) (hc2 : k0_cond2 i0 = 1#1) (hc3 : ¬ k0_cond3 i0 = 1#1) (hc4 : ¬ k0_cond4 i0 = 1#1) :
    (firstRun c hc1 hc2 hc3 hc4 M1 h1 M2 h2 M3 h3 M4 h4 M5 h5 M6 h6 M7 h7 M8 h8 M9 h9 M10 h10 M11 h11 f1 f2 f3 f4 f5 f6 f7 f8 f9 f10 f11).1.2.2.2 = M11.view.writes (Elt F) f11 (firstRun.sl.H11_56 c M4 f4) := (rfl)
end

end Cert.Proof.KernelIdeal

end
-- ==== Proof.Value.WeightsFirst.lean ====
/-
  What the first run leaves in the first weight buffer: the decoded tile of block column 0.
-/
module

public import proofs.«01_k».proof.Proof.Value.Tile
public import proofs.«01_k».proof.Proof.KernelIdeal.First

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F] [∀ e, Nonempty (Elt F e)]

/-- The scale row that the first run reads for each of the tile's eight blocks, out of what it stored itself. -/
abbrev scalesFirst (c : Dev nD) (hc2 : k0_cond2 i0 = 1#1) (M4 : Memref sig .tc .vmem S8x56 .bf16) (M11 : Memref sig .tc .vmem S56x8x128 .f32)
    (f4 : Bf (F := F) c M4) : Fin 8 → Vec F S1x1x128 .f32 := fun b =>
  M11.view.readCov (firstRun.sl.H11_56 c M4 f4) (Rect.unit (k0_off17 i0 (BitVec.ofNat 32 b.val)) S1x1x128.size (k0_off17_inb i0 hc2 b) : Rect S56x8x128).toLoadRect

/-- After the first run the first weight buffer reads as the decoded tile of block column 0. -/
theorem first_weights (c : Dev nD)
    (hc1 : k0_cond1 i0 = 1#1) (hc2 : k0_cond2 i0 = 1#1) (hc3 : ¬ k0_cond3 i0 = 1#1) (hc4 : ¬ k0_cond4 i0 = 1#1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (M7 : Memref sig .tc .vmem S256x14336 .bf16) (h7 : M7.IsWhole)
    (M8 : Memref sig .tc .vmem S256x512 .f32) (h8 : M8.IsWhole)
    (M9 : Memref sig .tc .vmem S2048x512 .bf16) (h9 : M9.IsWhole)
    (M10 : Memref sig .tc .vmem S2048x512 .bf16) (h10 : M10.IsWhole)
    (M11 : Memref sig .tc .vmem S56x8x128 .f32) (h11 : M11.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) :
    M9.view.read (Elt F) (firstRun c hc1 hc2 hc3 hc4 M1 h1 M2 h2 M3 h3 M4 h4 M5 h5 M6 h6 M7 h7 M8 h8 M9 h9 M10 h10 M11 h11
        f1 f2 f3 f4 f5 f6 f7 f8 f9 f10 f11).1.2.2.1
      = wTile 0 (M2.view.read (Elt F) f2) (M3.view.read (Elt F) f3) (scalesFirst c hc2 M4 M11 f4) := by
  have key : ∃ L, (firstRun c hc1 hc2 hc3 hc4 M1 h1 M2 h2 M3 h3 M4 h4 M5 h5 M6 h6 M7 h7 M8 h8 M9 h9 M10 h10 M11 h11
        f1 f2 f3 f4 f5 f6 f7 f8 f9 f10 f11).1.2.2.1 = M9.view.writes (Elt F) f9 L
      ∧ (∀ y : S2048x512.Idx, ∃ p ∈ L, y ∈ p.1.set)
      ∧ ∀ p ∈ L, Agrees (F := F) (S := S2048x512) (e := .bf16)
          (wTile 0 (M2.view.read (Elt F) f2) (M3.view.read (Elt F) f3) (scalesFirst c hc2 M4 M11 f4)) p := by
    refine ⟨_, rfl, View.cover_of_tiledL _ ![32, 128] (by sl_kernel_rfl), ?_⟩
    repeat' (first
      | exact List.forall_mem_nil _
      | refine List.forall_mem_cons.2 ⟨tile_piece 0 (0#32) rfl M2 M3 f2 f3 _ _ _ (by decide) (by decide) (by decide) _ (by decide) (by decide) (by decide), ?_⟩)
  obtain ⟨L, e, hc, ha⟩ := key
  rw [e]
  exact funext fun y => View.read_writes_apply_of_pieces _ _ _ _ ha y (hc y)

end Cert.Proof.KernelIdeal

end
-- ==== Proof.Value.WeightsEven.lean ====
/-
  What an even run leaves in the first weight buffer: the decoded tile.
-/
module

public import proofs.«01_k».proof.Proof.Value.Tile
public import proofs.«01_k».proof.Proof.KernelIdeal.Even

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F]

/-- The scale row that the run reads for each of the tile's eight blocks. -/
abbrev scalesEven (c : Dev nD) (i : grid0.Coords) (hc2 : k0_cond2 i = 1#1) (M11 : Memref sig .tc .vmem S56x8x128 .f32) (f11 : Bf (F := F) c M11) :
    Fin 8 → Vec F S1x1x128 .f32 := fun b =>
  M11.view.readAt (Elt F) (Rect.unit (k0_off17 i (BitVec.ofNat 32 b.val)) S1x1x128.size (k0_off17_inb i hc2 b) : Rect S56x8x128).toLoadRect f11

/-- Every store of an even run into the first weight buffer agrees with the decoded tile. -/
theorem even_agrees (c : Dev nD) (i : grid0.Coords) (hc2 : k0_cond2 i = 1#1) (n : Fin 8) (hv : evenRun.sl.v19 i = BitVec.ofNat 32 n.val)
    (M2 : Memref sig .tc .vmem S1024x512 .i8) (M3 : Memref sig .tc .vmem S8x2x8x256 .i8) (M11 : Memref sig .tc .vmem S56x8x128 .f32)
    (f2 : Bf (F := F) c M2) (f3 : Bf (F := F) c M3) (f11 : Bf (F := F) c M11) :
    ∀ p ∈ evenRun.sl.H9_256 c i hc2 M2 M3 M11 f2 f3 f11, Agrees (F := F) (S := S2048x512) (e := .bf16)
      (wTile n (M2.view.read (Elt F) f2) (M3.view.read (Elt F) f3) (scalesEven c i hc2 M11 f11)) p := by
  repeat' (first
    | exact List.forall_mem_nil _
    | refine List.forall_mem_cons.2 ⟨tile_piece n _ hv M2 M3 f2 f3 _ _ _ (by decide) (by decide) (by decide) _ (by decide) (by decide) (by decide), ?_⟩)

/-- The stores of an even run fill the first weight buffer. -/
theorem even_covers (c : Dev nD) (i : grid0.Coords) (hc2 : k0_cond2 i = 1#1)
    (M2 : Memref sig .tc .vmem S1024x512 .i8) (M3 : Memref sig .tc .vmem S8x2x8x256 .i8) (M11 : Memref sig .tc .vmem S56x8x128 .f32)
    (f2 : Bf (F := F) c M2) (f3 : Bf (F := F) c M3) (f11 : Bf (F := F) c M11) :
    ∀ y : S2048x512.Idx, ∃ p ∈ evenRun.sl.H9_256 c i hc2 M2 M3 M11 f2 f3 f11, y ∈ p.1.set :=
  View.cover_of_tiledL _ ![32, 128] (by sl_kernel_rfl)

/-- After an even run the first weight buffer reads as the decoded tile. -/
theorem even_weights (c : Dev nD) (i : grid0.Coords) (hc2 : k0_cond2 i = 1#1) (n : Fin 8) (hv : evenRun.sl.v19 i = BitVec.ofNat 32 n.val)
    (M2 : Memref sig .tc .vmem S1024x512 .i8) (M3 : Memref sig .tc .vmem S8x2x8x256 .i8) (M9 : Memref sig .tc .vmem S2048x512 .bf16)
    (M11 : Memref sig .tc .vmem S56x8x128 .f32)
    (f2 : Bf (F := F) c M2) (f3 : Bf (F := F) c M3) (f9 : Bf (F := F) c M9) (f11 : Bf (F := F) c M11) :
    M9.view.read (Elt F) (M9.view.writes (Elt F) f9 (evenRun.sl.H9_256 c i hc2 M2 M3 M11 f2 f3 f11))
      = wTile n (M2.view.read (Elt F) f2) (M3.view.read (Elt F) f3) (scalesEven c i hc2 M11 f11) :=
  funext fun y => View.read_writes_apply_of_pieces _ _ _ _ (even_agrees c i hc2 n hv M2 M3 M11 f2 f3 f11) y (even_covers c i hc2 M2 M3 M11 f2 f3 f11 y)

end Cert.Proof.KernelIdeal

end
-- ==== Proof.Value.WeightsOdd.lean ====
/-
  What an odd run leaves in the second weight buffer: the decoded tile.
-/
module

public import proofs.«01_k».proof.Proof.Value.Tile
public import proofs.«01_k».proof.Proof.KernelIdeal.Odd

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable {F : FTy → Type} [FloatOps F]

/-- The scale row that the run reads for each of the tile's eight blocks. -/
abbrev scalesOdd (c : Dev nD) (i : grid0.Coords) (hc3 : k0_cond3 i = 1#1) (M11 : Memref sig .tc .vmem S56x8x128 .f32) (f11 : Bf (F := F) c M11) :
    Fin 8 → Vec F S1x1x128 .f32 := fun b =>
  M11.view.readAt (Elt F) (Rect.unit (k0_off19 i (BitVec.ofNat 32 b.val)) S1x1x128.size (k0_off19_inb i hc3 b) : Rect S56x8x128).toLoadRect f11

/-- Every store of an odd run into the second weight buffer agrees with the decoded tile. -/
theorem odd_agrees (c : Dev nD) (i : grid0.Coords) (hc3 : k0_cond3 i = 1#1) (n : Fin 8) (hv : oddRun.sl.v19 i = BitVec.ofNat 32 n.val)
    (M2 : Memref sig .tc .vmem S1024x512 .i8) (M3 : Memref sig .tc .vmem S8x2x8x256 .i8) (M11 : Memref sig .tc .vmem S56x8x128 .f32)
    (f2 : Bf (F := F) c M2) (f3 : Bf (F := F) c M3) (f11 : Bf (F := F) c M11) :
    ∀ p ∈ oddRun.sl.H10_256 c i hc3 M2 M3 M11 f2 f3 f11, Agrees (F := F) (S := S2048x512) (e := .bf16)
      (wTile n (M2.view.read (Elt F) f2) (M3.view.read (Elt F) f3) (scalesOdd c i hc3 M11 f11)) p := by
  repeat' (first
    | exact List.forall_mem_nil _
    | refine List.forall_mem_cons.2 ⟨tile_piece n _ hv M2 M3 f2 f3 _ _ _ (by decide) (by decide) (by decide) _ (by decide) (by decide) (by decide), ?_⟩)

/-- The stores of an odd run fill the second weight buffer. -/
theorem odd_covers (c : Dev nD) (i : grid0.Coords) (hc3 : k0_cond3 i = 1#1)
    (M2 : Memref sig .tc .vmem S1024x512 .i8) (M3 : Memref sig .tc .vmem S8x2x8x256 .i8) (M11 : Memref sig .tc .vmem S56x8x128 .f32)
    (f2 : Bf (F := F) c M2) (f3 : Bf (F := F) c M3) (f11 : Bf (F := F) c M11) :
    ∀ y : S2048x512.Idx, ∃ p ∈ oddRun.sl.H10_256 c i hc3 M2 M3 M11 f2 f3 f11, y ∈ p.1.set :=
  View.cover_of_tiledL _ ![32, 128] (by sl_kernel_rfl)

/-- After an odd run the second weight buffer reads as the decoded tile. -/
theorem odd_weights (c : Dev nD) (i : grid0.Coords) (hc3 : k0_cond3 i = 1#1) (n : Fin 8) (hv : oddRun.sl.v19 i = BitVec.ofNat 32 n.val)
    (M2 : Memref sig .tc .vmem S1024x512 .i8) (M3 : Memref sig .tc .vmem S8x2x8x256 .i8) (M10 : Memref sig .tc .vmem S2048x512 .bf16)
    (M11 : Memref sig .tc .vmem S56x8x128 .f32)
    (f2 : Bf (F := F) c M2) (f3 : Bf (F := F) c M3) (f10 : Bf (F := F) c M10) (f11 : Bf (F := F) c M11) :
    M10.view.read (Elt F) (M10.view.writes (Elt F) f10 (oddRun.sl.H10_256 c i hc3 M2 M3 M11 f2 f3 f11))
      = wTile n (M2.view.read (Elt F) f2) (M3.view.read (Elt F) f3) (scalesOdd c i hc3 M11 f11) :=
  funext fun y => View.read_writes_apply_of_pieces _ _ _ _ (odd_agrees c i hc3 n hv M2 M3 M11 f2 f3 f11) y (odd_covers c i hc3 M2 M3 M11 f2 f3 f11 y)

end Cert.Proof.KernelIdeal

end
-- ==== Proof.Value.Pass.lean ====
/-
  Every point of the grid takes the carried statement on: the first establishes it, an even and an odd one carry it.
-/
module

public import proofs.«01_k».proof.Proof.Value.Carry
public import proofs.«01_k».proof.Proof.Value.Forms
public import proofs.«01_k».proof.Proof.Value.WeightsFirst
public import proofs.«01_k».proof.Proof.Value.WeightsEven
public import proofs.«01_k».proof.Proof.Value.WeightsOdd

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable (m : (ℓ : Loc nD τ sig) → Buf (Elt Ideal) ℓ)

/-- The accumulator after an even point. -/
theorem even_acc (c : Dev nD) (t : Fin cfg0.N) (h0 : t.val ≠ 0) (ht : t.val % 2 = 0)
    (f7 : Bf (F := Ideal) c (Memref.whole cc0_scratch0)) (f8 : Bf (F := Ideal) c (Memref.whole cc0_scratch1)) (f9 : Bf (F := Ideal) c (Memref.whole cc0_scratch2)) (f10 : Bf (F := Ideal) c (Memref.whole cc0_scratch3)) (f11 : Bf (F := Ideal) c (Memref.whole cc0_scratch4))
    (hI : Inv m c t.val f7 f8 f9 f10 f11) (s : Fin 256) (q : Fin 512) (f : Bf (F := Ideal) c (Memref.whole cc0_scratch1)) :
    ((Memref.whole cc0_scratch1 : Memref sig .tc .vmem S256x512 .f32).view.read (Elt Ideal)
        ((Memref.whole cc0_scratch1 : Memref sig .tc .vmem S256x512 .f32).view.writes (Elt Ideal) f (evenRun.sl.H8_1 c (grid0.coords t) (c2_even t h0 ht) (Memref.whole cc0_scratch0) (Memref.whole cc0_scratch1) (Memref.whole cc0_scratch3) f7 f8 f10)) (ix2 s q) : EReal)
      = AC m c (t.val - 1) s q := by
  have hN : t.val < 57 := t.isLt
  obtain ⟨i7, i11, i9, i10, i8⟩ := hI h0
  refine (product_read (Memref.whole cc0_scratch0) (Memref.whole cc0_scratch1) (Memref.whole cc0_scratch3) f7 f8 f f10 _ _ _ _ _ _
    ⟨(t.val - 1) % 7, Nat.mod_lt _ (by decide)⟩ (rows_even t h0) _ _ _ s q).trans ?_
  exact step_eq m c (t.val - 1) (by omega) s q _ _ _ _ i7 (i10 (by omega) (by omega))
    (fun hj => i8 (by rintro h; rw [h] at hj; exact hj rfl) s q) (fresh_even t h0)

/-- An even point takes the carried statement on. -/
theorem even_pass (c : Dev nD) (t : Fin cfg0.N) (h0 : t.val ≠ 0) (ht : t.val % 2 = 0)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (f1 : Bf (F := Ideal) c M1) (f2 : Bf (F := Ideal) c M2) (f3 : Bf (F := Ideal) c M3) (f4 : Bf (F := Ideal) c M4) (f5 : Bf (F := Ideal) c M5) (f6 : Bf (F := Ideal) c M6)
    (f7 : Bf (F := Ideal) c (Memref.whole cc0_scratch0)) (f8 : Bf (F := Ideal) c (Memref.whole cc0_scratch1)) (f9 : Bf (F := Ideal) c (Memref.whole cc0_scratch2)) (f10 : Bf (F := Ideal) c (Memref.whole cc0_scratch3)) (f11 : Bf (F := Ideal) c (Memref.whole cc0_scratch4))
    (e2 : M2.view.read (Elt Ideal) f2 = blk2 m c t) (e3 : M3.view.read (Elt Ideal) f3 = blk3 m c t) (e5 : M5.view.read (Elt Ideal) f5 = blk5 m c t)
    (hI : Inv m c t.val f7 f8 f9 f10 f11) :
    Inv m c (t.val + 1) f7 (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 f10 f11
      ∧ Rl m c t (M6.view.read (Elt Ideal) (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1) := by
  have hN : t.val < 57 := t.isLt
  have hacc := fun s q => even_acc m c t h0 ht f7 f8 f9 f10 f11 hI s q
  obtain ⟨i7, i11, -, -, -⟩ := hI h0
  have hw : t.val < 56 → (Memref.whole cc0_scratch2 : Memref sig .tc .vmem S2048x512 .bf16).view.read (Elt Ideal) (evenRun c (grid0.coords t) (c1_pos t h0) (c2_even t h0 ht) (c3_even t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 = WT m c t.val := fun hlt => by
    rw [even_weights_form]
    refine (even_weights c (grid0.coords t) (c2_even t h0 ht) ⟨t.val / 7, by omega⟩ (group_even t hlt) M2 M3 (Memref.whole cc0_scratch2) (Memref.whole cc0_scratch4) f2 f3 f9 f11).trans ?_
    rw [e2, e3]
    exact tile_eq m c t hlt _ fun b l => scale_row (c := c) (Memref.whole cc0_scratch4) f11 (SC m c) i11 _ ⟨t.val % 7 * 8 + b.val, by omega⟩ ⟨t.val / 7, by omega⟩
      (scale_even t hlt b) _ l
  refine ⟨fun _ => ⟨i7, i11, fun _ h => ?_, fun _ h => ?_, fun _ s q => ?_⟩, fun _ h7 s q => ?_⟩
  · exact hw (by omega)
  · exact absurd h (by omega)
  · rw [even_acc_form]
    exact hacc s q f8
  · rw [even_out_form (hc4 := (stores_iff t h0).2 h7)]
    refine (out_read (Memref.whole cc0_scratch1) M5 M6 f6 f5 (evenRun.sl.H8_1 c (grid0.coords t) (c2_even t h0 ht) (Memref.whole cc0_scratch0) (Memref.whole cc0_scratch1) (Memref.whole cc0_scratch3) f7 f8 f10) _ _ s q _ (hacc s q)).trans ?_
    rw [e5, blk5_apply]
    refine congrArg (fun z => AC m c (t.val - 1) s q * (arg4 m c (ix1 z) : EReal)) (Fin.ext ?_)
    show (t.val - 1) / 7 * 512 + q.val = (t.val - 1) / 7 % 8 * 512 + q.val
    omega

/-- The accumulator after an odd point. -/
theorem odd_acc (c : Dev nD) (t : Fin cfg0.N) (h0 : t.val ≠ 0) (ht : t.val % 2 = 1)
    (f7 : Bf (F := Ideal) c (Memref.whole cc0_scratch0)) (f8 : Bf (F := Ideal) c (Memref.whole cc0_scratch1)) (f9 : Bf (F := Ideal) c (Memref.whole cc0_scratch2)) (f10 : Bf (F := Ideal) c (Memref.whole cc0_scratch3)) (f11 : Bf (F := Ideal) c (Memref.whole cc0_scratch4))
    (hI : Inv m c t.val f7 f8 f9 f10 f11) (s : Fin 256) (q : Fin 512) (f : Bf (F := Ideal) c (Memref.whole cc0_scratch1)) :
    ((Memref.whole cc0_scratch1 : Memref sig .tc .vmem S256x512 .f32).view.read (Elt Ideal)
        ((Memref.whole cc0_scratch1 : Memref sig .tc .vmem S256x512 .f32).view.writes (Elt Ideal) f (oddRun.sl.H8_1 c (grid0.coords t) (c3_odd t h0 ht) (Memref.whole cc0_scratch0) (Memref.whole cc0_scratch1) (Memref.whole cc0_scratch2) f7 f8 f9)) (ix2 s q) : EReal)
      = AC m c (t.val - 1) s q := by
  have hN : t.val < 57 := t.isLt
  obtain ⟨i7, i11, i9, i10, i8⟩ := hI h0
  refine (product_read (Memref.whole cc0_scratch0) (Memref.whole cc0_scratch1) (Memref.whole cc0_scratch2) f7 f8 f f9 _ _ _ _ _ _
    ⟨(t.val - 1) % 7, Nat.mod_lt _ (by decide)⟩ (rows_odd t h0) _ _ _ s q).trans ?_
  exact step_eq m c (t.val - 1) (by omega) s q _ _ _ _ i7 (i9 (by omega) (by omega))
    (fun hj => i8 (by rintro h; rw [h] at hj; exact hj rfl) s q) (fresh_odd t h0)

/-- An odd point takes the carried statement on. -/
theorem odd_pass (c : Dev nD) (t : Fin cfg0.N) (h0 : t.val ≠ 0) (ht : t.val % 2 = 1)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (f1 : Bf (F := Ideal) c M1) (f2 : Bf (F := Ideal) c M2) (f3 : Bf (F := Ideal) c M3) (f4 : Bf (F := Ideal) c M4) (f5 : Bf (F := Ideal) c M5) (f6 : Bf (F := Ideal) c M6)
    (f7 : Bf (F := Ideal) c (Memref.whole cc0_scratch0)) (f8 : Bf (F := Ideal) c (Memref.whole cc0_scratch1)) (f9 : Bf (F := Ideal) c (Memref.whole cc0_scratch2)) (f10 : Bf (F := Ideal) c (Memref.whole cc0_scratch3)) (f11 : Bf (F := Ideal) c (Memref.whole cc0_scratch4))
    (e2 : M2.view.read (Elt Ideal) f2 = blk2 m c t) (e3 : M3.view.read (Elt Ideal) f3 = blk3 m c t) (e5 : M5.view.read (Elt Ideal) f5 = blk5 m c t)
    (hI : Inv m c t.val f7 f8 f9 f10 f11) :
    Inv m c (t.val + 1) f7 (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 f9 (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 f11
      ∧ Rl m c t (M6.view.read (Elt Ideal) (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1) := by
  have hN : t.val < 57 := t.isLt
  have hacc := fun s q => odd_acc m c t h0 ht f7 f8 f9 f10 f11 hI s q
  obtain ⟨i7, i11, -, -, -⟩ := hI h0
  have hw : t.val < 56 → (Memref.whole cc0_scratch3 : Memref sig .tc .vmem S2048x512 .bf16).view.read (Elt Ideal) (oddRun c (grid0.coords t) (c1_pos t h0) (c2_odd t h0 ht) (c3_odd t h0 ht) M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2 = WT m c t.val := fun hlt => by
    rw [odd_weights_form]
    refine (odd_weights c (grid0.coords t) (c3_odd t h0 ht) ⟨t.val / 7, by omega⟩ (group_odd t hlt) M2 M3 (Memref.whole cc0_scratch3) (Memref.whole cc0_scratch4) f2 f3 f10 f11).trans ?_
    rw [e2, e3]
    exact tile_eq m c t hlt _ fun b l => scale_row (c := c) (Memref.whole cc0_scratch4) f11 (SC m c) i11 _ ⟨t.val % 7 * 8 + b.val, by omega⟩ ⟨t.val / 7, by omega⟩
      (scale_odd t hlt b) _ l
  refine ⟨fun _ => ⟨i7, i11, fun _ h => ?_, fun _ h => ?_, fun _ s q => ?_⟩, fun _ h7 s q => ?_⟩
  · exact absurd h (by omega)
  · exact hw (by omega)
  · rw [odd_acc_form]
    exact hacc s q f8
  · rw [odd_out_form (hc4 := (stores_iff t h0).2 h7)]
    refine (out_read (Memref.whole cc0_scratch1) M5 M6 f6 f5 (oddRun.sl.H8_1 c (grid0.coords t) (c3_odd t h0 ht) (Memref.whole cc0_scratch0) (Memref.whole cc0_scratch1) (Memref.whole cc0_scratch2) f7 f8 f9) _ _ s q _ (hacc s q)).trans ?_
    rw [e5, blk5_apply]
    refine congrArg (fun z => AC m c (t.val - 1) s q * (arg4 m c (ix1 z) : EReal)) (Fin.ext ?_)
    show (t.val - 1) / 7 * 512 + q.val = (t.val - 1) / 7 % 8 * 512 + q.val
    omega

/-- The first point establishes the carried statement. -/
theorem first_pass (c : Dev nD) (t : Fin cfg0.N) (ht : t.val = 0)
    (M1 : Memref sig .tc .vmem S256x14336 .bf16) (h1 : M1.IsWhole)
    (M2 : Memref sig .tc .vmem S1024x512 .i8) (h2 : M2.IsWhole)
    (M3 : Memref sig .tc .vmem S8x2x8x256 .i8) (h3 : M3.IsWhole)
    (M4 : Memref sig .tc .vmem S8x56 .bf16) (h4 : M4.IsWhole)
    (M5 : Memref sig .tc .vmem S1x512 .f32) (h5 : M5.IsWhole)
    (M6 : Memref sig .tc .vmem S256x512 .bf16) (h6 : M6.IsWhole)
    (f1 : Bf (F := Ideal) c M1) (f2 : Bf (F := Ideal) c M2) (f3 : Bf (F := Ideal) c M3) (f4 : Bf (F := Ideal) c M4) (f5 : Bf (F := Ideal) c M5) (f6 : Bf (F := Ideal) c M6)
    (f7 : Bf (F := Ideal) c (Memref.whole cc0_scratch0)) (f8 : Bf (F := Ideal) c (Memref.whole cc0_scratch1)) (f9 : Bf (F := Ideal) c (Memref.whole cc0_scratch2)) (f10 : Bf (F := Ideal) c (Memref.whole cc0_scratch3)) (f11 : Bf (F := Ideal) c (Memref.whole cc0_scratch4))
    (e1 : M1.view.read (Elt Ideal) f1 = blk1 m c t) (e2 : M2.view.read (Elt Ideal) f2 = blk2 m c t) (e3 : M3.view.read (Elt Ideal) f3 = blk3 m c t)
    (e4 : M4.view.read (Elt Ideal) f4 = blk4 m c t) :
    Inv m c (t.val + 1) (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.1 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.1 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2.1 f10 (firstRun c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).1.2.2.2 := by
  have hlt : t.val < 56 := by omega
  have hi : i0 = grid0.coords t := congrArg grid0.coords (Fin.ext ht.symm)
  have s11 : ∀ f, (Memref.whole cc0_scratch4 : Memref sig .tc .vmem S56x8x128 .f32).view.read (Elt Ideal)
      ((Memref.whole cc0_scratch4 : Memref sig .tc .vmem S56x8x128 .f32).view.writes (Elt Ideal) f (firstRun.sl.H11_56 c M4 f4)) = sTile (SC m c) := fun f =>
    (scale_read c M4 (Memref.whole cc0_scratch4) f4 f).trans (congrArg sTile (e4.trans (scales_eq m c t)))
  intro _
  refine ⟨?_, ?_, fun _ _ => ?_, fun _ h => absurd h (by omega), fun h => absurd h (by omega)⟩
  · rw [first_split_form]
    refine (split_read c cond_i0.1 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f7).trans ?_
    rw [e1]
    exact split_eq m c t
  · rw [first_scales_form]
    exact s11 f11
  · refine (first_weights c cond_i0.1 cond_i0.2.1 cond_i0.2.2.1 cond_i0.2.2.2 M1 h1 M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f1 f2 f3 f4 f5 f6 f7 f8 f9 f10 f11).trans ?_
    rw [e2, e3]
    have hz : (0 : Fin 8) = ⟨t.val / 7, by omega⟩ := Fin.ext (by show 0 = t.val / 7; omega)
    rw [hz]
    exact tile_eq m c t hlt _ fun b l => scale_row (c := c) (Memref.whole cc0_scratch4) _ (SC m c) (s11 _) _ ⟨t.val % 7 * 8 + b.val, by omega⟩ ⟨t.val / 7, by omega⟩
      ((congrArg (fun i => k0_off17 i (BitVec.ofNat 32 b.val)) hi).trans (scale_even t hlt b)) _ l

/-- The carried statement passes through every point. -/
theorem passes : Passes m (Inv m) (Rl m) where
  start _ _ _ _ _ _ := fun h => absurd rfl h
  first c t ht M1 h1 M2 h2 M3 h3 M4 h4 M5 h5 M6 h6 f1 f2 f3 f4 f5 f6 f7 f8 f9 f10 f11 e1 e2 e3 e4 e5 :=
    ⟨first_pass m c t ht M1 h1 M2 h2 M3 h3 M4 h4 M5 h5 M6 h6 f1 f2 f3 f4 f5 f6 f7 f8 f9 f10 f11 e1 e2 e3 e4, fun h => absurd ht h⟩
  even c t h0 ht M1 h1 M2 h2 M3 h3 M4 h4 M5 h5 M6 h6 f1 f2 f3 f4 f5 f6 f7 f8 f9 f10 f11 e1 e2 e3 e4 e5 hI := even_pass m c t h0 ht M1 h1 M2 h2 M3 h3 M4 h4 M5 h5 M6 h6 f1 f2 f3 f4 f5 f6 f7 f8 f9 f10 f11 e2 e3 e5 hI
  odd c t h0 ht M1 h1 M2 h2 M3 h3 M4 h4 M5 h5 M6 h6 f1 f2 f3 f4 f5 f6 f7 f8 f9 f10 f11 e1 e2 e3 e4 e5 hI := odd_pass m c t h0 ht M1 h1 M2 h2 M3 h3 M4 h4 M5 h5 M6 h6 f1 f2 f3 f4 f5 f6 f7 f8 f9 f10 f11 e2 e3 e5 hI

end Cert.Proof.KernelIdeal

end
-- ==== Proof.Value.Result.lean ====
/-
  The array that the kernel leaves: the whole contraction at every row and column, times the column's scale.
-/
module

public import proofs.«01_k».proof.Proof.Value.Pass
public import Idealize.ShloMosaic.Lib.Pipeline.ArrRel

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

variable (m : (ℓ : Loc nD τ sig) → Buf (Elt Ideal) ℓ) (ρ : Dev nD → PrngReg)

/-- The kernel's result: the contraction over all seven tiles of rows, times the column's scale. -/
def result (c : Dev nD) : S256x4096.Idx → Ideal .bf16 := fun y =>
  part (arg0 m c) (arg1 m c) (arg2 m c) (arg3 m c) (y 0) (y 1) 7 * (arg4 m c (ix1 (y 1)) : EReal)

/-- The result's block is written back at every seventh point after the first. -/
theorem flush_out : ∀ t : Fin grid0.N, (cfg0.win 5).flush t = true → t.val ≠ 0 ∧ t.val % 7 = 0 := by decide +kernel

/-- The array of the result after the run, whatever the blocks that the points left, as long as each is what `Rl` says. -/
theorem result_array (c : Dev nD) (dat : Pipeline.Dat τ (Elt Ideal) Unit ℕ (UR sig nD τ) ℕ cfg0 c)
    (h : ∀ t : Fin cfg0.N, (cfg0.win 5).flush t = true → Rl m c t (dat.after 5 t)) :
    dat.arrAt 5 cfg0.N = result m c := by
  refine dat.arrAt_eq_of_covers 5 _ (by decide +kernel) fun t hf y => ?_
  obtain ⟨h0, h7⟩ := flush_out t hf
  have hN : t.val < 57 := t.isLt
  have key := h t hf h0 h7 (y 0) (y 1)
  have e : ((cfg0.win 5).blk t).view.emb y = (ix2 (y 0) (qcol (t.val - 1) (y 1)) : S256x4096.Idx) := by
    have hd : (t.val - 1) / 7 % 8 = (t.val - 1) / 7 := by omega
    blk_ext [index_at t, qcol, hd]
  have hy : y = (ix2 (y 0) (y 1) : S256x512.Idx) := by blk_ext []
  rw [e]
  blk_simp
  have h6 : (t.val - 1) % 7 + 1 = 7 := by omega
  refine (congrArg (dat.after 5 t) hy).trans (key.trans ?_)
  unfold AC result
  rw [h6]
  rfl

/-- Every run of the kernel ends with its result at `result`, the arguments as they were. -/
theorem result_main : θ_run defs (onTc (τ := τ) (main (F := Ideal))) (s₀ m ρ) (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ (Inv m) (Rl m) (passes m))
  obtain ⟨after, hL, hA⟩ := Pipeline.RDat.FramePost.exists_exact h.1 c
  refine ⟨(hA 5).trans (result_array m c _ fun t hf => ?_), args_kept _ _ h.1 c⟩
  exact Pipeline.Dat.toRRel_leaves _ (w := 5) rfl (hL 5 t hf)

end Cert.Proof.KernelIdeal

end
-- ==== Proof.Value.Lookup.lean ====
/-
  The reference's table lookup read at an index.
-/
module

public import proofs.«01_k».proof.Proof.Reference
public import Idealize.ShloMosaic.Lib.Pointwise

@[expose] public section

set_option maxRecDepth 16384

noncomputable section

namespace Cert.Proof.Reference

open Cert.ReferenceIdeal Cert.ReferenceIdeal.Gen Idealize.ShloMosaic

/-- The lookup reads the row of the block's and the group's table that the index names, the indices being below 256. -/
theorem lookup_apply {α : Type} (x : S56x8x256x2.Idx → α) (i : IVec S56x128x8x512x1 32) (a : Fin 56) (b : Fin 128) (c : Fin 8) (d : Fin 512) (e : Fin 2)
    (w : Fin 256) (hw : (i (ix5 a b c d 0)).toInt.toNat = w.val) :
    Host.gather gather_S56x8x256x2_S56x128x8x512x1_S56x128x8x512x2_4_2_01_02_2_4_1112 x i (ix5 a b c d e) = x (ix4 a c w e) := by
  unfold Host.gather
  refine congrArg x (funext fun k => Fin.ext ?_)
  generalize hd : gather_S56x8x256x2_S56x128x8x512x1_S56x128x8x512x2_4_2_01_02_2_4_1112 = D
  match k with
  | ⟨0, _⟩ =>
    show D.start (ix5 a b c d e) i 0 + D.batchCoord (ix5 a b c d e) 0 + D.offCoord (ix5 a b c d e) 0 = a.val
    subst hd
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    show D.start (ix5 a b c d e) i 1 + D.batchCoord (ix5 a b c d e) 1 + D.offCoord (ix5 a b c d e) 1 = c.val
    subst hd
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨2, _⟩ =>
    show D.start (ix5 a b c d e) i 2 + D.batchCoord (ix5 a b c d e) 2 + D.offCoord (ix5 a b c d e) 2 = w.val
    subst hd
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine Eq.trans (b := min (i (ix5 a b c d 0)).toInt.toNat 255) ?_ (by rw [hw]; have := w.isLt; omega)
    refine congrArg (fun v => min (i v).toInt.toNat 255) (funext fun k => Fin.ext ?_)
    match k with
    | ⟨0, _⟩ => rfl
    | ⟨1, _⟩ => rfl
    | ⟨2, _⟩ => rfl
    | ⟨3, _⟩ => rfl
    | ⟨4, _⟩ => rfl
  | ⟨3, _⟩ =>
    show D.start (ix5 a b c d e) i 3 + D.batchCoord (ix5 a b c d e) 3 + D.offCoord (ix5 a b c d e) 3 = e.val
    subst hd
    rw [GatherDims.batchCoord_eq_zero _ _ _ (by decide)]
    unfold GatherDims.start
    rw [dif_neg (by decide)]
    simp only [Nat.zero_add, Nat.add_zero]
    unfold GatherDims.offCoord
    rw [dif_pos (by decide)]
    rfl

end Cert.Proof.Reference

end
-- ==== Proof.Value.RefValue.lean ====
/-
  The reference's result read at an index: the two halves of the contraction, over the even and over the odd rows.
-/
module

public import proofs.«01_k».proof.Proof.Value.Lookup

@[expose] public section

set_option maxRecDepth 16384

noncomputable section

namespace Cert.Proof.Reference

open Cert.ReferenceIdeal Cert.ReferenceIdeal.Gen Idealize.ShloMosaic
open Idealize.ShloMosaic.TcCoe Idealize.ShloMosaic.Tactic Idealize.SL.Sem

/-- The scaled table of the reference. -/
def table (a2 : S56x8x256x2.Idx → BitVec 8) (a3 : S56x8.Idx → Ideal .bf16) : S56x8x256x2.Idx → Ideal .bf16 :=
  mulf (truncf .bf16 (sitofp (F := Ideal) .f32 (extsi 32 a2 natLt_8_32)) bitsLt_bf16_f32) (broadcastInDim S56x8x256x2 ![0, 1, 2, 3] bcast_S56x8x1x1_S56x8x256x2_0_1_2_3 (broadcastInDim S56x8x1x1 ![0, 1] bcast_S56x8_S56x8x1x1_0_1 a3))

/-- The indices of the reference, block by block and group by group. -/
def words (a1 : S7168x4096.Idx → BitVec 8) : IVec S56x128x8x512x1 32 :=
  broadcastInDim S56x128x8x512x1 ![0, 1, 2, 3] bcast_S56x128x8x512_S56x128x8x512x1_0_1_2_3 (shapeCast _ (extui 32 a1 natLt_8_32) shapeCasts_S7168x4096_S56x128x8x512)

/-- The looked-up pairs of the reference. -/
def pairs (a1 : S7168x4096.Idx → BitVec 8) (a2 : S56x8x256x2.Idx → BitVec 8) (a3 : S56x8.Idx → Ideal .bf16) : S56x128x8x512x2.Idx → Ideal .bf16 :=
  Host.gather gather_S56x8x256x2_S56x128x8x512x1_S56x128x8x512x2_4_2_01_02_2_4_1112 (table a2 a3) (words a1)

/-- The weight at row `j` of the pairs, column `q`, member `p` of the pair. -/
def dec (a1 : S7168x4096.Idx → BitVec 8) (a2 : S56x8x256x2.Idx → BitVec 8) (a3 : S56x8.Idx → Ideal .bf16) (j : Fin 7168) (q : Fin 4096) (p : Fin 2) : EReal :=
  (FloatOps.sitofp (F := Ideal) .bf16 (a2 (ix4 ⟨j.val / 128, by omega⟩ ⟨q.val / 512, by omega⟩ ⟨(a1 (ix2 j q)).toNat, BitVec.isLt _⟩ p)) : EReal)
    * (a3 (ix2 ⟨j.val / 128, by omega⟩ ⟨q.val / 512, by omega⟩) : EReal)

theorem table_apply (a2 : S56x8x256x2.Idx → BitVec 8) (a3 : S56x8.Idx → Ideal .bf16) (b : Fin 56) (g : Fin 8) (w : Fin 256) (p : Fin 2) :
    (table a2 a3 (ix4 b g w p) : EReal) = (FloatOps.sitofp (F := Ideal) .bf16 (a2 (ix4 b g w p)) : EReal) * (a3 (ix2 b g) : EReal) := by
  unfold table
  pointwise
  refine congrArg (fun v : EReal => v * (a3 (ix2 b g) : EReal)) ?_
  show (((BitVec.signExtend 32 (a2 (ix4 b g w p))).toInt : ℝ) : EReal) = (((a2 (ix4 b g w p)).toInt : ℝ) : EReal)
  rw [BitVec.toInt_signExtend_of_le (by decide)]

theorem words_apply (a1 : S7168x4096.Idx → BitVec 8) (b : Fin 56) (r : Fin 128) (g : Fin 8) (l : Fin 512) :
    words a1 (ix5 b r g l 0) = (a1 (ix2 ⟨b.val * 128 + r.val, by omega⟩ ⟨g.val * 512 + l.val, by omega⟩)).setWidth 32 := by
  unfold words
  pointwise

theorem even_apply (X : S56x128x8x512x2.Idx → Ideal .bf16) (j : Fin 7168) (q : Fin 4096) :
    (shapeCast S7168x4096 (shapeCast _ (extractStridedSlice S56x128x8x512x1 ![0, 0, 0, 0, 0] X slices_S56x128x8x512x2_S56x128x8x512x1_0_0_0_0_0) shapeCasts_S56x128x8x512x1_S56x128x8x512) shapeCasts_S56x128x8x512_S7168x4096) (ix2 j q)
      = X (ix5 ⟨j.val / 128, by omega⟩ ⟨j.val % 128, by omega⟩ ⟨q.val / 512, by omega⟩ ⟨q.val % 512, by omega⟩ 0) := by
  pointwise

theorem odd_apply (X : S56x128x8x512x2.Idx → Ideal .bf16) (j : Fin 7168) (q : Fin 4096) :
    (shapeCast S7168x4096 (shapeCast _ (extractStridedSlice S56x128x8x512x1 ![0, 0, 0, 0, 1] X slices_S56x128x8x512x2_S56x128x8x512x1_0_0_0_0_1) shapeCasts_S56x128x8x512x1_S56x128x8x512) shapeCasts_S56x128x8x512_S7168x4096) (ix2 j q)
      = X (ix5 ⟨j.val / 128, by omega⟩ ⟨j.val % 128, by omega⟩ ⟨q.val / 512, by omega⟩ ⟨q.val % 512, by omega⟩ 1) := by
  pointwise

theorem xe_apply (a0 : S1x256x14336.Idx → Ideal .bf16) (s : Fin 256) (j : Fin 7168) :
    (shapeCast S256x7168 (extractStridedSlice S256x7168x1 ![0, 0, 0] (shapeCast _ a0 shapeCasts_S1x256x14336_S256x7168x2) slices_S256x7168x2_S256x7168x1_0_0_0) shapeCasts_S256x7168x1_S256x7168) (ix2 s j)
      = a0 (ix3 0 s ⟨j.val * 2, by omega⟩) := by
  pointwise

theorem xo_apply (a0 : S1x256x14336.Idx → Ideal .bf16) (s : Fin 256) (j : Fin 7168) :
    (shapeCast S256x7168 (extractStridedSlice S256x7168x1 ![0, 0, 1] (shapeCast _ a0 shapeCasts_S1x256x14336_S256x7168x2) slices_S256x7168x2_S256x7168x1_0_0_1) shapeCasts_S256x7168x1_S256x7168) (ix2 s j)
      = a0 (ix3 0 s ⟨j.val * 2 + 1, by omega⟩) := by
  pointwise

theorem dot_apply (X : S256x7168.Idx → Ideal .bf16) (W : S7168x4096.Idx → Ideal .bf16) (s : Fin 256) (q : Fin 4096) :
    ((Host.dotGeneral (F := Ideal) (φ₁ := .bf16) (φ₂ := .bf16) dot_S256x7168_S7168x4096_S256x4096_1_0_0_1_n_n none X W) (ix2 s q) : EReal)
      = ∑ j : Fin 7168, (X (ix2 s j) : EReal) * (W (ix2 j q) : EReal) := by
  pointwise

/-- The pair looked up at an index is the decoded weight's. -/
theorem pairs_apply (a1 : S7168x4096.Idx → BitVec 8) (a2 : S56x8x256x2.Idx → BitVec 8) (a3 : S56x8.Idx → Ideal .bf16) (j : Fin 7168) (q : Fin 4096) (p : Fin 2) :
    (pairs a1 a2 a3 (ix5 ⟨j.val / 128, by omega⟩ ⟨j.val % 128, by omega⟩ ⟨q.val / 512, by omega⟩ ⟨q.val % 512, by omega⟩ p) : EReal) = dec a1 a2 a3 j q p := by
  have ej : (⟨j.val / 128 * 128 + j.val % 128, by omega⟩ : Fin 7168) = j := Fin.ext (by show j.val / 128 * 128 + j.val % 128 = j.val; omega)
  have eq : (⟨q.val / 512 * 512 + q.val % 512, by omega⟩ : Fin 4096) = q := Fin.ext (by show q.val / 512 * 512 + q.val % 512 = q.val; omega)
  have hw : (words a1 (ix5 ⟨j.val / 128, by omega⟩ ⟨j.val % 128, by omega⟩ ⟨q.val / 512, by omega⟩ ⟨q.val % 512, by omega⟩ 0)).toInt.toNat
      = (a1 (ix2 j q)).toNat := by
    rw [words_apply]
    simp only [ej, eq]
    have h := (a1 (ix2 j q)).isLt
    rw [BitVec.toInt_eq_toNat_of_lt (by rw [BitVec.toNat_setWidth]; omega), BitVec.toNat_setWidth]
    omega
  unfold pairs
  rw [lookup_apply _ _ _ _ _ _ _ ⟨(a1 (ix2 j q)).toNat, BitVec.isLt _⟩ hw]
  exact table_apply _ _ _ _ _ _

/-- The reference's result: the contraction over the even rows and over the odd ones, times the column's scale. -/
def result (a0 : S1x256x14336.Idx → Ideal .bf16) (a1 : S7168x4096.Idx → BitVec 8) (a2 : S56x8x256x2.Idx → BitVec 8) (a3 : S56x8.Idx → Ideal .bf16) (a4 : S4096.Idx → Ideal .f32) :
    S256x4096.Idx → Ideal .bf16 := fun y =>
  ((∑ j : Fin 7168, (a0 (ix3 0 (y 0) ⟨j.val * 2, by omega⟩) : EReal) * dec a1 a2 a3 j (y 1) 0)
    + ∑ j : Fin 7168, (a0 (ix3 0 (y 0) ⟨j.val * 2 + 1, by omega⟩) : EReal) * dec a1 a2 a3 j (y 1) 1) * (a4 (ix1 (y 1)) : EReal)

/-- The composed term of the reference's operations is `result`. -/
theorem result_eq (a0 : S1x256x14336.Idx → Ideal .bf16) (a1 : S7168x4096.Idx → BitVec 8) (a2 : S56x8x256x2.Idx → BitVec 8) (a3 : S56x8.Idx → Ideal .bf16) (a4 : S4096.Idx → Ideal .f32) :
    (truncf .bf16 (mulf (addf (Host.dotGeneral (F := Ideal) (φ₁ := .bf16) (φ₂ := .bf16) dot_S256x7168_S7168x4096_S256x4096_1_0_0_1_n_n none (shapeCast _ (extractStridedSlice S256x7168x1 ![0, 0, 0] (shapeCast _ a0 shapeCasts_S1x256x14336_S256x7168x2) slices_S256x7168x2_S256x7168x1_0_0_0) shapeCasts_S256x7168x1_S256x7168) (shapeCast _ (shapeCast _ (extractStridedSlice S56x128x8x512x1 ![0, 0, 0, 0, 0] (pairs a1 a2 a3) slices_S56x128x8x512x2_S56x128x8x512x1_0_0_0_0_0) shapeCasts_S56x128x8x512x1_S56x128x8x512) shapeCasts_S56x128x8x512_S7168x4096)) (Host.dotGeneral (F := Ideal) (φ₁ := .bf16) (φ₂ := .bf16) dot_S256x7168_S7168x4096_S256x4096_1_0_0_1_n_n none (shapeCast _ (extractStridedSlice S256x7168x1 ![0, 0, 1] (shapeCast _ a0 shapeCasts_S1x256x14336_S256x7168x2) slices_S256x7168x2_S256x7168x1_0_0_1) shapeCasts_S256x7168x1_S256x7168) (shapeCast _ (shapeCast _ (extractStridedSlice S56x128x8x512x1 ![0, 0, 0, 0, 1] (pairs a1 a2 a3) slices_S56x128x8x512x2_S56x128x8x512x1_0_0_0_0_1) shapeCasts_S56x128x8x512x1_S56x128x8x512) shapeCasts_S56x128x8x512_S7168x4096))) (broadcastInDim S256x4096 ![0, 1] bcast_S1x4096_S256x4096_0_1 (broadcastInDim S1x4096 ![1] bcast_S4096_S1x4096_1 a4))) bitsLt_bf16_f32 : S256x4096.Idx → Ideal .bf16)
      = result a0 a1 a2 a3 a4 := by
  funext y
  obtain ⟨s, q, rfl⟩ : ∃ (s : Fin 256) (q : Fin 4096), y = ix2 s q := ⟨y 0, y 1, funext fun a => match a with | ⟨0, _⟩ => rfl | ⟨1, _⟩ => rfl⟩
  refine congrArg₂ (fun u v : EReal => u * v) (congrArg₂ (fun u v : EReal => u + v) ?_ ?_) ?_
  · refine (dot_apply _ _ s q).trans (Finset.sum_congr rfl fun j _ => ?_)
    rw [xe_apply, even_apply, pairs_apply]
    rfl
  · refine (dot_apply _ _ s q).trans (Finset.sum_congr rfl fun j _ => ?_)
    rw [xo_apply, odd_apply, pairs_apply]
    rfl
  · pointwise

/-- Every run of the reference ends with its result at `result`, the arguments as they were. -/
theorem result_main (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v27) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq _ _ _ _ _), (h c).2⟩) (Cert.ReferenceIdeal.Value.run m ρ)

end Cert.Proof.Reference

end
-- ==== Proof.Value.Equation.lean ====
/-
  The equation: the contraction in the split order, tile by tile, is the one over the even rows plus the one over the odd rows.
-/
module

public import proofs.«01_k».proof.Proof.Value.Spec
public import proofs.«01_k».proof.Proof.Value.RefValue

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic

/-- The row of the split order that member `p` of pair `j` has: within every 128 rows the even members come first. -/
def place (j : Fin 7168) (p : Fin 2) : Fin 14336 := ⟨128 * (j.val / 64) + 64 * p.val + j.val % 64, by omega⟩

/-- Every row of the split order is one member of one pair. -/
def placeEquiv : Fin 7168 × Fin 2 ≃ Fin 14336 where
  toFun z := place z.1 z.2
  invFun R := (⟨R.val / 128 * 64 + R.val % 64, by omega⟩, ⟨R.val / 64 % 2, by omega⟩)
  left_inv := fun ⟨j, p⟩ => by
    refine Prod.ext (Fin.ext ?_) (Fin.ext ?_)
    · show (128 * (j.val / 64) + 64 * p.val + j.val % 64) / 128 * 64 + (128 * (j.val / 64) + 64 * p.val + j.val % 64) % 64 = j.val
      omega
    · show (128 * (j.val / 64) + 64 * p.val + j.val % 64) / 64 % 2 = p.val
      omega
  right_inv := fun R => Fin.ext (by
    show 128 * ((R.val / 128 * 64 + R.val % 64) / 64) + 64 * (R.val / 64 % 2) + (R.val / 128 * 64 + R.val % 64) % 64 = R.val
    omega)

/-- Seven tiles of 2048 rows are all the rows. -/
def tileEquiv : Fin 7 × Fin 2048 ≃ Fin 14336 where
  toFun z := ⟨z.1.val * 2048 + z.2.val, by omega⟩
  invFun R := (⟨R.val / 2048, by omega⟩, ⟨R.val % 2048, by omega⟩)
  left_inv := fun ⟨k, r⟩ => by
    refine Prod.ext (Fin.ext ?_) (Fin.ext ?_)
    · show (k.val * 2048 + r.val) / 2048 = k.val
      omega
    · show (k.val * 2048 + r.val) % 2048 = r.val
      omega
  right_inv := fun R => Fin.ext (by
    show R.val / 2048 * 2048 + R.val % 2048 = R.val
    omega)

variable (a0 : S1x256x14336.Idx → Ideal .bf16) (a1 : S7168x4096.Idx → BitVec 8) (a2 : S56x8x256x2.Idx → BitVec 8) (a3 : S56x8.Idx → Ideal .bf16)

/-- The seven tiles' sums are one sum over the rows. -/
theorem part_rows (s : Fin 256) (q : Fin 4096) : part a0 a1 a2 a3 s q 7 = ∑ R : Fin 14336, tm a0 a1 a2 a3 s q R := by
  unfold part
  rw [Finset.sum_range, ← tileEquiv.sum_comp, Fintype.sum_prod_type]
  refine Finset.sum_congr rfl fun k _ => Finset.sum_congr rfl fun r _ => congrArg _ (Fin.ext ?_)
  show k.val % 7 * 2048 + r.val = k.val * 2048 + r.val
  have := k.isLt
  omega

/-- One product of the contraction, at a member of a pair, is the reference's. -/
theorem tm_place (s : Fin 256) (q : Fin 4096) (j : Fin 7168) (p : Fin 2) :
    tm a0 a1 a2 a3 s q (place j p) = (a0 (ix3 0 s ⟨j.val * 2 + p.val, by omega⟩) : EReal) * Reference.dec a1 a2 a3 j q p := by
  have hp := p.isLt
  have h1 : (place j p).val / 256 = j.val / 128 := by show (128 * (j.val / 64) + 64 * p.val + j.val % 64) / 256 = _; omega
  have h2 : (place j p).val / 128 * 64 + (place j p).val % 64 = j.val := by
    show (128 * (j.val / 64) + 64 * p.val + j.val % 64) / 128 * 64 + (128 * (j.val / 64) + 64 * p.val + j.val % 64) % 64 = _; omega
  have h3 : (place j p).val / 64 % 2 = p.val := by show (128 * (j.val / 64) + 64 * p.val + j.val % 64) / 64 % 2 = _; omega
  have h4 : 128 * ((place j p).val / 128) + lane ((place j p).val % 128) = j.val * 2 + p.val := by
    have e : (place j p).val = 128 * (j.val / 64) + 64 * p.val + j.val % 64 := rfl
    rw [e]
    unfold lane
    split <;> omega
  unfold tm xs wgt Reference.dec
  simp only [h1, h2, h3, h4]

/-- The contraction in the split order is the reference's two contractions added. -/
theorem part_eq (s : Fin 256) (q : Fin 4096) : part a0 a1 a2 a3 s q 7
    = (∑ j : Fin 7168, (a0 (ix3 0 s ⟨j.val * 2, by omega⟩) : EReal) * Reference.dec a1 a2 a3 j q 0)
      + ∑ j : Fin 7168, (a0 (ix3 0 s ⟨j.val * 2 + 1, by omega⟩) : EReal) * Reference.dec a1 a2 a3 j q 1 := by
  rw [part_rows, ← placeEquiv.sum_comp, Fintype.sum_prod_type, ← Finset.sum_add_distrib]
  refine Finset.sum_congr rfl fun j _ => ?_
  rw [Fin.sum_univ_two]
  exact congrArg₂ (fun u v : EReal => u + v) (tm_place a0 a1 a2 a3 s q j 0) (tm_place a0 a1 a2 a3 s q j 1)

end Cert.Proof.KernelIdeal

end
-- ==== Proof.lean ====
/-
  The claims, put together.
-/
module

public import proofs.«01_k».proof.Defs
public import proofs.«01_k».proof.Proof.Kernel.Launch
public import proofs.«01_k».proof.Proof.KernelIdeal.Launch
public import proofs.«01_k».proof.Proof.Reference
public import proofs.«01_k».proof.Proof.Value.Result
public import proofs.«01_k».proof.Proof.Value.Equation

@[expose] public section

set_option maxRecDepth 16384

namespace Cert.Proof

open Idealize.ShloMosaic

/-- Kernel and reference leave the same result over the extended reals, whatever the arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => KernelIdeal.result m c, KernelIdeal.result_main m g, ?_⟩
  refine (θ_run _ _ _).mono (fun r h c => ⟨(h c).1.trans ?_, (h c).2⟩) (Reference.result_main m' g')
  obtain ⟨e0, e1, e2, e3, e4⟩ := hargs c
  rw [e0, e1, e2, e3, e4]
  funext y
  exact congrArg (fun v : EReal => v * (KernelIdeal.arg4 m c (ix1 (y 1)) : EReal)) (KernelIdeal.part_eq _ _ _ _ (y 0) (y 1)).symm

/-- Everything claimed: the three frames, the ideal program being the kernel's, and the equality of the results. -/
theorem claim : Cert.Claim :=
  ⟨Cert.Kernel.Gen.facts, Cert.KernelIdeal.Gen.facts, Cert.ReferenceIdeal.Gen.facts,
    fun m g _ => Kernel.frame_main g, fun m g _ => KernelIdeal.frame_main g, fun m g _ => Reference.frame_main m g, trivial, algebraic⟩

end Cert.Proof

end
